-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attends_KernelIdeal [hPre_attends_KernelIdeal : Cert.Pre_attends_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_attends_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends_ReferenceIdeal [hPre_attends_ReferenceIdeal : Cert.Pre_attends_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attends_KernelIdeal [hKernelIdeal : Cert.KernelIdeal.Facts] [hPre_attends_KernelIdeal : Cert.Pre_attends_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attends_ReferenceIdeal [hReferenceIdeal : Cert.ReferenceIdeal.Facts] [hPre_attends_ReferenceIdeal : Cert.Pre_attends_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_attends_KernelIdeal [hKernelIdeal : Cert.KernelIdeal.Facts] [hReferenceIdeal : Cert.ReferenceIdeal.Facts] [hPre_attends_KernelIdeal : Cert.Pre_attends_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![128, 16, 8, 64]⟩ (Layout.meshBlock [2, 2] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![128, 16, 8, 64]⟩ (Layout.meshBlock [2, 2] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_attends_KernelIdeal : Cert.Pre_attends_KernelIdeal.Facts) (hPre_attends_ReferenceIdeal : Cert.Pre_attends_ReferenceIdeal.Facts),
    quiescent_Kernel (hKernel := hKernel)
    ∧ quiescent_KernelIdeal (hKernelIdeal := hKernelIdeal)
    ∧ quiescent_KernelIdeal_pre_attends_KernelIdeal (hKernelIdeal := hKernelIdeal) (hPre_attends_KernelIdeal := hPre_attends_KernelIdeal)
    ∧ quiescent_ReferenceIdeal (hReferenceIdeal := hReferenceIdeal)
    ∧ quiescent_ReferenceIdeal_pre_attends_ReferenceIdeal (hReferenceIdeal := hReferenceIdeal) (hPre_attends_ReferenceIdeal := hPre_attends_ReferenceIdeal)
    ∧ preserves_Kernel_KernelIdeal
    ∧ algebraic_KernelIdeal_ReferenceIdeal_pre_attends_KernelIdeal (hKernelIdeal := hKernelIdeal) (hReferenceIdeal := hReferenceIdeal) (hPre_attends_KernelIdeal := hPre_attends_KernelIdeal)
-- ==== Pre_attends_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S_ : Shape := ⟨0, ![]⟩

class Facts : Prop where
  bcast_S8_S8x64_0 : S8.BroadcastsInDim S8x64 (![0] : Fin 1 → Fin S8x64.rank)
  bcast_S_S8x64 : S_.BroadcastsInDim S8x64 (![] : Fin 0 → Fin S8x64.rank)
  bcast_S_S8 : S_.BroadcastsInDim S8 (![] : Fin 0 → Fin S8.rank)
  reducesTo_S8_S_d0 : S8.ReducesTo [0] S_
  h_S_ : 0 < S_.numel
  reducesTo_S8x64_S_d0_1 : S8x64.ReducesTo [0, 1] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_

variable [Facts]

def fn_part1 {F : FTy → Type} [FloatOps F] (main_arg1 : FVec F S64x16x8x64 .f32) (main_v14 : IVec S_ 1) (main_v17 : IVec S8x1x8x64 1) : IVec S_ 1 :=
  let main_c_4 : IVec S_ 1 := constantI S_ 1 1#1
  let main_v18 : IVec S_ 1 := (fun x v => Host.reduce IntOp.andi x v reducesTo_S8x1x8x64_S_d0_1_2_3 h_S_) main_v17 main_c_4
  let main_v19 : IVec S_ 1 := andi main_v14 main_v18
  let main_v20 : FVec F S64x16x8x64 .f32 := Host.absf main_arg1
  let main_cst_5 : FVec F S_ .f32 := constant S_ .f32 0x7F800000#32
  let main_v21 : FVec F S64x16x8x64 .f32 := broadcastInDim S64x16x8x64 ![] bcast_S_S64x16x8x64 main_cst_5
  let main_v22 : IVec S64x16x8x64 1 := cmpf .olt main_v20 main_v21
  let main_c_6 : IVec S_ 1 := constantI S_ 1 1#1
  let main_v23 : IVec S_ 1 := (fun x v => Host.reduce IntOp.andi x v reducesTo_S64x16x8x64_S_d0_1_2_3 h_S_) main_v22 main_c_6
  let main_v24 : IVec S_ 1 := andi main_v19 main_v23
  main_v24

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S_ 1 :=
  let main_v0 : IVec S8x64 32 := iotaInDim S8x64 32 1
  let main_v1 : IVec S8x64 32 := broadcastInDim S8x64 ![0] bcast_S8_S8x64_0 main_arg4
  let main_v2 : IVec S8x64 1 := cmpi .slt main_v0 main_v1
  let main_c : IVec S_ 32 := constantI S_ 32 0#32
  let main_v3 : IVec S8x64 32 := broadcastInDim S8x64 ![] bcast_S_S8x64 main_c
  let main_v4 : IVec S8x64 1 := cmpi .sge main_arg3 main_v3
  let main_c_0 : IVec S_ 32 := constantI S_ 32 128#32
  let main_v5 : IVec S8x64 32 := broadcastInDim S8x64 ![] bcast_S_S8x64 main_c_0
  let main_v6 : IVec S8x64 1 := cmpi .slt main_arg3 main_v5
  let main_v7 : IVec S8x64 1 := andi main_v4 main_v6
  let main_c_1 : IVec S_ 32 := constantI S_ 32 1#32
  let main_v8 : IVec S8 32 := broadcastInDim S8 ![] bcast_S_S8 main_c_1
  let main_v9 : IVec S8 1 := cmpi .sge main_arg4 main_v8
  let main_c_2 : IVec S_ 1 := constantI S_ 1 1#1
  let main_v10 : IVec S_ 1 := (fun x v => Host.reduce IntOp.andi x v reducesTo_S8_S_d0 h_S_) main_v9 main_c_2
  let main_v11 : IVec S8x64 1 := noti main_v2
  let main_v12 : IVec S8x64 1 := ori main_v11 main_v7
  let main_c_3 : IVec S_ 1 := constantI S_ 1 1#1
  let main_v13 : IVec S_ 1 := (fun x v => Host.reduce IntOp.andi x v reducesTo_S8x64_S_d0_1 h_S_) main_v12 main_c_3
  let main_v14 : IVec S_ 1 := andi main_v10 main_v13
  let main_v15 : FVec F S8x1x8x64 .f32 := Host.absf main_arg0
  let main_cst : FVec F S_ .f32 := constant S_ .f32 0x7F800000#32
  let main_v16 : FVec F S8x1x8x64 .f32 := broadcastInDim S8x1x8x64 ![] bcast_S_S8x1x8x64 main_cst
  let main_v17 : IVec S8x1x8x64 1 := cmpf .olt main_v15 main_v16
  fn_part1 (F := F) main_arg1 main_v14 main_v17
-- ==== Pre_attends_ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S_ : Shape := ⟨0, ![]⟩

class Facts : Prop where
  bcast_S8_S8x64_0 : S8.BroadcastsInDim S8x64 (![0] : Fin 1 → Fin S8x64.rank)
  bcast_S_S8x64 : S_.BroadcastsInDim S8x64 (![] : Fin 0 → Fin S8x64.rank)
  bcast_S_S8 : S_.BroadcastsInDim S8 (![] : Fin 0 → Fin S8.rank)
  reducesTo_S8_S_d0 : S8.ReducesTo [0] S_
  h_S_ : 0 < S_.numel
  reducesTo_S8x64_S_d0_1 : S8x64.ReducesTo [0, 1] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S128x16x8x64 : S_.BroadcastsInDim S128x16x8x64 (![] : Fin 0 → Fin S128x16x8x64.rank)
  reducesTo_S128x16x8x64_S_d0_1_2_3 : S128x16x8x64.ReducesTo [0, 1, 2, 3] S_

variable [Facts]

def fn_part1 {F : FTy → Type} [FloatOps F] (main_arg1 : FVec F S128x16x8x64 .f32) (main_v14 : IVec S_ 1) (main_v17 : IVec S8x1x8x64 1) : IVec S_ 1 :=
  let main_c_4 : IVec S_ 1 := constantI S_ 1 1#1
  let main_v18 : IVec S_ 1 := (fun x v => Host.reduce IntOp.andi x v reducesTo_S8x1x8x64_S_d0_1_2_3 h_S_) main_v17 main_c_4
  let main_v19 : IVec S_ 1 := andi main_v14 main_v18
  let main_v20 : FVec F S128x16x8x64 .f32 := Host.absf main_arg1
  let main_cst_5 : FVec F S_ .f32 := constant S_ .f32 0x7F800000#32
  let main_v21 : FVec F S128x16x8x64 .f32 := broadcastInDim S128x16x8x64 ![] bcast_S_S128x16x8x64 main_cst_5
  let main_v22 : IVec S128x16x8x64 1 := cmpf .olt main_v20 main_v21
  let main_c_6 : IVec S_ 1 := constantI S_ 1 1#1
  let main_v23 : IVec S_ 1 := (fun x v => Host.reduce IntOp.andi x v reducesTo_S128x16x8x64_S_d0_1_2_3 h_S_) main_v22 main_c_6
  let main_v24 : IVec S_ 1 := andi main_v19 main_v23
  main_v24

def fn {F : FTy → Type} [FloatOps F] (main_arg0 : FVec F S8x1x8x64 .f32) (main_arg1 : FVec F S128x16x8x64 .f32) (main_arg2 : FVec F S128x16x8x64 .f32) (main_arg3 : IVec S8x64 32) (main_arg4 : IVec S8 32) : IVec S_ 1 :=
  let main_v0 : IVec S8x64 32 := iotaInDim S8x64 32 1
  let main_v1 : IVec S8x64 32 := broadcastInDim S8x64 ![0] bcast_S8_S8x64_0 main_arg4
  let main_v2 : IVec S8x64 1 := cmpi .slt main_v0 main_v1
  let main_c : IVec S_ 32 := constantI S_ 32 0#32
  let main_v3 : IVec S8x64 32 := broadcastInDim S8x64 ![] bcast_S_S8x64 main_c
  let main_v4 : IVec S8x64 1 := cmpi .sge main_arg3 main_v3
  let main_c_0 : IVec S_ 32 := constantI S_ 32 128#32
  let main_v5 : IVec S8x64 32 := broadcastInDim S8x64 ![] bcast_S_S8x64 main_c_0
  let main_v6 : IVec S8x64 1 := cmpi .slt main_arg3 main_v5
  let main_v7 : IVec S8x64 1 := andi main_v4 main_v6
  let main_c_1 : IVec S_ 32 := constantI S_ 32 1#32
  let main_v8 : IVec S8 32 := broadcastInDim S8 ![] bcast_S_S8 main_c_1
  let main_v9 : IVec S8 1 := cmpi .sge main_arg4 main_v8
  let main_c_2 : IVec S_ 1 := constantI S_ 1 1#1
  let main_v10 : IVec S_ 1 := (fun x v => Host.reduce IntOp.andi x v reducesTo_S8_S_d0 h_S_) main_v9 main_c_2
  let main_v11 : IVec S8x64 1 := noti main_v2
  let main_v12 : IVec S8x64 1 := ori main_v11 main_v7
  let main_c_3 : IVec S_ 1 := constantI S_ 1 1#1
  let main_v13 : IVec S_ 1 := (fun x v => Host.reduce IntOp.andi x v reducesTo_S8x64_S_d0_1 h_S_) main_v12 main_c_3
  let main_v14 : IVec S_ 1 := andi main_v10 main_v13
  let main_v15 : FVec F S8x1x8x64 .f32 := Host.absf main_arg0
  let main_cst : FVec F S_ .f32 := constant S_ .f32 0x7F800000#32
  let main_v16 : FVec F S8x1x8x64 .f32 := broadcastInDim S8x1x8x64 ![] bcast_S_S8x1x8x64 main_cst
  let main_v17 : IVec S8x1x8x64 1 := cmpf .olt main_v15 main_v16
  fn_part1 (F := F) main_arg1 main_v14 main_v17
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64x16x4x64 : Shape := ⟨4, ![64, 16, 4, 64]⟩
abbrev S8x4x66 : Shape := ⟨3, ![8, 4, 66]⟩
abbrev S7 : Shape := ⟨1, ![7]⟩
abbrev S3 : Shape := ⟨1, ![3]⟩
abbrev S1 : Shape := ⟨1, ![1]⟩
abbrev S_ : Shape := ⟨0, ![]⟩
abbrev S32x16x4x64 : Shape := ⟨4, ![32, 16, 4, 64]⟩
abbrev S1x64 : Shape := ⟨2, ![1, 64]⟩
abbrev S8x1x64 : Shape := ⟨3, ![8, 1, 64]⟩
abbrev S8x64x64 : Shape := ⟨3, ![8, 64, 64]⟩
abbrev S64x1024 : Shape := ⟨2, ![64, 1024]⟩
abbrev S8x1024 : Shape := ⟨2, ![8, 1024]⟩
abbrev S8x1x1x64 : Shape := ⟨4, ![8, 1, 1, 64]⟩
abbrev S32x16x1x64 : Shape := ⟨4, ![32, 16, 1, 64]⟩
abbrev S32x16x64 : Shape := ⟨3, ![32, 16, 64]⟩
abbrev S512x64 : Shape := ⟨2, ![512, 64]⟩
abbrev S8x512 : Shape := ⟨2, ![8, 512]⟩
abbrev S8x1 : Shape := ⟨2, ![8, 1]⟩
abbrev S64x16x1x64 : Shape := ⟨4, ![64, 16, 1, 64]⟩
abbrev S64x16x64 : Shape := ⟨3, ![64, 16, 64]⟩
abbrev S1024x64 : Shape := ⟨2, ![1024, 64]⟩
abbrev S8x1x1 : Shape := ⟨3, ![8, 1, 1]⟩

abbrev nBuf : Space → Nat
  | .hbm => 6
  | .vmem => 9
  | .smem => 1
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S8x1x8x64, .f32⟩
  | .local _ .vmem, ⟨0, _⟩ => ⟨S8x1x8x64, .f32⟩
  | .local _ .vmem, ⟨1, _⟩ => ⟨S8x64, .i32⟩
  | .local _ .vmem, ⟨2, _⟩ => ⟨S8x1x8x64, .f32⟩
  | .local _ .vmem, ⟨3, _⟩ => ⟨S64x16x4x64, .f32⟩
  | .local _ .vmem, ⟨4, _⟩ => ⟨S64x16x4x64, .f32⟩
  | .local _ .vmem, ⟨5, _⟩ => ⟨S8x4x66, .f32⟩
  | .local _ .vmem, ⟨6, _⟩ => ⟨S8x4x66, .f32⟩
  | .local _ .vmem, ⟨7, _⟩ => ⟨S8x4x66, .f32⟩
  | .local _ .vmem, ⟨8, _⟩ => ⟨S8x4x66, .f32⟩
  | .local _ .smem, ⟨0, _⟩ => ⟨S8, .i32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let c0_i32_11 : BitVec 32 := 0#32
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4_i32 : BitVec 32 := 4#32
  let v10 : BitVec 32 := Scalar.muli v2 c4_i32
  let c0_i32_13 : BitVec 32 := 0#32
  ![0, 0, v10.toNat, 0]
def k0_off2 (d0 : Dev nD) : Fin 4 → Nat :=
  let c32_i32_18 : BitVec 32 := 32#32
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4_i32 : BitVec 32 := 4#32
  let v10 : BitVec 32 := Scalar.muli v2 c4_i32
  let c0_i32_20 : BitVec 32 := 0#32
  ![32, 0, v10.toNat, 0]
def k0_dev1 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v32 : BitVec 32 := Scalar.muli v2 c2_i32_37
  let v33 : BitVec 32 := Scalar.addi c0_i32_38 v32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v34 : BitVec 32 := Scalar.muli v6 c1_i32_39
  let v35 : BitVec 32 := Scalar.addi v33 v34
  v35.toNat
def k0_dev2 (d0 : Dev nD) : Nat :=
  let c0_i32_42 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_41 : BitVec 32 := 2#32
  let v36 : BitVec 32 := Scalar.muli v7 c2_i32_41
  let v37 : BitVec 32 := Scalar.addi c0_i32_42 v36
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v38 : BitVec 32 := Scalar.muli v5 c1_i32_43
  let v39 : BitVec 32 := Scalar.addi v37 v38
  v39.toNat
def k0_dev3 (d0 : Dev nD) : Nat :=
  let c0_i32_46 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_45 : BitVec 32 := 2#32
  let v40 : BitVec 32 := Scalar.muli v8 c2_i32_45
  let v41 : BitVec 32 := Scalar.addi c0_i32_46 v40
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_47 : BitVec 32 := 1#32
  let v42 : BitVec 32 := Scalar.muli v9 c1_i32_47
  let v43 : BitVec 32 := Scalar.addi v41 v42
  v43.toNat
def k0_dev4 (d0 : Dev nD) : Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_237 : BitVec 32 := 2#32
  let v307 : BitVec 32 := Scalar.muli v2 c2_i32_237
  let v308 : BitVec 32 := Scalar.addi c0_i32_238 v307
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_239 : BitVec 32 := 1#32
  let v309 : BitVec 32 := Scalar.muli v6 c1_i32_239
  let v310 : BitVec 32 := Scalar.addi v308 v309
  v310.toNat
def k0_dev5 (d0 : Dev nD) : Nat :=
  let c0_i32_243 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_242 : BitVec 32 := 2#32
  let v315 : BitVec 32 := Scalar.muli v7 c2_i32_242
  let v316 : BitVec 32 := Scalar.addi c0_i32_243 v315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v317 : BitVec 32 := Scalar.muli v5 c1_i32_244
  let v318 : BitVec 32 := Scalar.addi v316 v317
  v318.toNat
def k0_dev6 (d0 : Dev nD) : Nat :=
  let c0_i32_248 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_247 : BitVec 32 := 2#32
  let v323 : BitVec 32 := Scalar.muli v8 c2_i32_247
  let v324 : BitVec 32 := Scalar.addi c0_i32_248 v323
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_249 : BitVec 32 := 1#32
  let v325 : BitVec 32 := Scalar.muli v9 c1_i32_249
  let v326 : BitVec 32 := Scalar.addi v324 v325
  v326.toNat
abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S8x8x64 : Shape := ⟨3, ![8, 8, 64]⟩
abbrev S_ : Shape := ⟨0, ![]⟩
abbrev S8x64x1 : Shape := ⟨3, ![8, 64, 1]⟩
abbrev S8x64x16x8x64 : Shape := ⟨5, ![8, 64, 16, 8, 64]⟩
abbrev S8x8x64x16 : Shape := ⟨4, ![8, 8, 64, 16]⟩
abbrev S8x8 : Shape := ⟨2, ![8, 8]⟩
abbrev S8x8x1x1 : Shape := ⟨4, ![8, 8, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S128x16x8x64, .f32⟩
  | .hbm, ⟨2, _⟩ => ⟨S128x16x8x64, .f32⟩
  | .hbm, ⟨3, _⟩ => ⟨S8x64, .i32⟩
  | .hbm, ⟨4, _⟩ => ⟨S8, .i32⟩
  | .hbm, ⟨5, _⟩ => ⟨S8x8x64, .f32⟩
  | .hbm, ⟨6, _⟩ => ⟨S_, .i32⟩
  | .hbm, ⟨7, _⟩ => ⟨S8x64, .i32⟩
  | .hbm, ⟨8, _⟩ => ⟨S8x64, .i1⟩
  | .hbm, ⟨9, _⟩ => ⟨S_, .i32⟩
  | .hbm, ⟨10, _⟩ => ⟨S8x64, .i32⟩
  | .hbm, ⟨11, _⟩ => ⟨S8x64, .i32⟩
  | .hbm, ⟨12, _⟩ => ⟨S8x64, .i32⟩
  | .hbm, ⟨13, _⟩ => ⟨S8x64x1, .i32⟩
  | .hbm, ⟨14, _⟩ => ⟨S8x64x16x8x64, .f32⟩
  | .hbm, ⟨15, _⟩ => ⟨S8x8x64x16, .f32⟩
  | .hbm, ⟨16, _⟩ => ⟨S_, .f32⟩
  | .hbm, ⟨17, _⟩ => ⟨S8x8x64x16, .f32⟩
  | .hbm, ⟨18, _⟩ => ⟨S8x8x64x16, .f32⟩
  | .hbm, ⟨19, _⟩ => ⟨S8x8x64x16, .i32⟩
  | .hbm, ⟨20, _⟩ => ⟨S8x8x64x16, .i32⟩
  | .hbm, ⟨21, _⟩ => ⟨S8x8x64x16, .i1⟩
  | .hbm, ⟨22, _⟩ => ⟨S_, .f32⟩
  | .hbm, ⟨23, _⟩ => ⟨S8x8x64x16, .f32⟩
  | .hbm, ⟨24, _⟩ => ⟨S8x8x64x16, .f32⟩
  | .hbm, ⟨25, _⟩ => ⟨S_, .f32⟩
  | .hbm, ⟨26, _⟩ => ⟨S8x8, .f32⟩
  | .hbm, ⟨27, _⟩ => ⟨S8x8x1x1, .f32⟩
  | .hbm, ⟨28, _⟩ => ⟨S8x8x64x16, .f32⟩
  | .hbm, ⟨29, _⟩ => ⟨S8x8x64x16, .f32⟩
  | .hbm, ⟨30, _⟩ => ⟨S8x8x64x16, .f32⟩
  | .hbm, ⟨31, _⟩ => ⟨S_, .f32⟩
  | .hbm, ⟨32, _⟩ => ⟨S8x8, .f32⟩
  | .hbm, ⟨33, _⟩ => ⟨S8x8x1x1, .f32⟩
  | .hbm, ⟨34, _⟩ => ⟨S8x8x64x16, .f32⟩
  | .hbm, ⟨35, _⟩ => ⟨S8x8x64x16, .f32⟩
  | .hbm, ⟨36, _⟩ => ⟨S_, .i32⟩
  | .hbm, ⟨37, _⟩ => ⟨S8x64, .i32⟩
  | .hbm, ⟨38, _⟩ => ⟨S8x64, .i1⟩
  | .hbm, ⟨39, _⟩ => ⟨S_, .i32⟩
  | .hbm, ⟨40, _⟩ => ⟨S8x64, .i32⟩
  | .hbm, ⟨41, _⟩ => ⟨S8x64, .i32⟩
  | .hbm, ⟨42, _⟩ => ⟨S8x64, .i32⟩
  | .hbm, ⟨43, _⟩ => ⟨S8x64x1, .i32⟩
  | .hbm, ⟨44, _⟩ => ⟨S8x64x16x8x64, .f32⟩
  | .hbm, ⟨45, _⟩ => ⟨S8x8x64, .f32⟩
  | .hbm, ⟨46, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Protocol.lean ====
/-
The exchange between the four devices, as a schedule of the rounds library.

Device `c = 2x + y` talks to three peers: the one across the mesh axis `y` (number `c xor 1`), the one across `x`
(`c xor 2`) and the one across both (`c xor 3`). Direction `j` names the peer `c xor (j+1)`; a peer of a peer in the
same direction is the device itself. Three kinds of semaphore carry the exchange:

* the runtime's barrier semaphore: each peer pays one unit, and with the unit of direction `j` comes that peer's landing
  buffer `j` and the fact that its receive semaphore `j` is at its first round;
* send semaphore `j` of a device: raised when its transfer `j` has left, giving back the share of the packed buffer the
  transfer read;
* receive semaphore `j` of a device: raised when peer `j`'s packed buffer has landed in landing buffer `j`.

The contents of the packed buffers are a parameter `PK` of the schedule: what each device sends.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's copy of the rounds algebra, duties named by the direction. -/
abbrev UB : Type := URounds (GSem nD τ sig) (Fin 3)
/-- The pipeline's copy, the exchange's copy, and the counters of the local transfers. -/
abbrev UU : Type := UR sig nD τ × (UB × Counters)

local notation "𝕄" => MT nD τ sig Unit (Elt F) ℕ UU ℕ

/-- Where the pipeline's copy sits. -/
abbrev EP : Emb (UR sig nD τ) (MT nD τ sig Unit (Elt F) ℕ UU ℕ) := embL
/-- Where the exchange's copy sits: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Peers -/

set_option backward.proofsInPublic true in
/-- The peer in direction `j`: the device whose number differs in the bits of `j + 1`. -/
def pe (j : Fin 3) (c : Dev nD) : Dev nD :=
  ⟨(c.val ^^^ (j.val + 1)) % 4, Nat.mod_lt _ (by decide)⟩

/-- The peer's peer in the same direction is the device itself. -/
theorem pe_pe (j : Fin 3) (c : Dev nD) : pe j (pe j c) = c := by revert j c; decide

/-- The first signal goes to the peer in direction 0. -/
theorem dev1_eq (c : Dev nD) : (⟨k0_dev1 c, k0_dev1_lt c⟩ : Dev nD) = pe 0 c :=
  Fin.ext ((k0_dev1_eq c).trans (by revert c; decide))
/-- The second signal goes to the peer in direction 1. -/
theorem dev2_eq (c : Dev nD) : (⟨k0_dev2 c, k0_dev2_lt c⟩ : Dev nD) = pe 1 c :=
  Fin.ext ((k0_dev2_eq c).trans (by revert c; decide))
/-- The third signal goes to the peer in direction 2. -/
theorem dev3_eq (c : Dev nD) : (⟨k0_dev3 c, k0_dev3_lt c⟩ : Dev nD) = pe 2 c :=
  Fin.ext ((k0_dev3_eq c).trans (by revert c; decide))
/-- The first transfer goes to the peer in direction 0. -/
theorem dev4_eq (c : Dev nD) : (⟨k0_dev4 c, k0_dev4_lt c⟩ : Dev nD) = pe 0 c :=
  Fin.ext ((k0_dev4_eq c).trans (by revert c; decide))
/-- The second transfer goes to the peer in direction 1. -/
theorem dev5_eq (c : Dev nD) : (⟨k0_dev5 c, k0_dev5_lt c⟩ : Dev nD) = pe 1 c :=
  Fin.ext ((k0_dev5_eq c).trans (by revert c; decide))
/-- The third transfer goes to the peer in direction 2. -/
theorem dev6_eq (c : Dev nD) : (⟨k0_dev6 c, k0_dev6_lt c⟩ : Dev nD) = pe 2 c :=
  Fin.ext ((k0_dev6_eq c).trans (by revert c; decide))

/-- Direction `j` as a rearrangement of the devices. -/
def around (j : Fin 3) : Dev nD ≃ Dev nD := ⟨pe j, pe j, pe_pe j, pe_pe j⟩

/-! ## Semaphores and cells -/

/-- The barrier semaphore of the runtime. -/
abbrev barS : Sem sig := (SemArray.scalar (sig.barrier 0 rfl) : Sems sig S_).sem
/-- The semaphore of departure 0. -/
abbrev send0 : DmaSem sig :=
  ((cc0_scratch10.slice (Rect.unit (s := S3) ![0] S1.size inb_S3_S1_0)).squeeze S_ squeezes_S1_S_).sem
/-- The semaphore of departure 1. -/
abbrev send1 : DmaSem sig :=
  ((cc0_scratch10.slice (Rect.unit (s := S3) ![1] S1.size inb_S3_S1_1)).squeeze S_ squeezes_S1_S_).sem
/-- The semaphore of departure 2. -/
abbrev send2 : DmaSem sig :=
  ((cc0_scratch10.slice (Rect.unit (s := S3) ![2] S1.size inb_S3_S1_2)).squeeze S_ squeezes_S1_S_).sem
/-- The semaphores raised by departures, one per direction. -/
abbrev sendS : Fin 3 → DmaSem sig
  | 0 => send0 | 1 => send1 | 2 => send2
/-- The semaphore of arrival 0. -/
abbrev recv0 : DmaSem sig :=
  ((cc0_scratch11.slice (Rect.unit (s := S3) ![0] S1.size inb_S3_S1_0)).squeeze S_ squeezes_S1_S_).sem
/-- The semaphore of arrival 1. -/
abbrev recv1 : DmaSem sig :=
  ((cc0_scratch11.slice (Rect.unit (s := S3) ![1] S1.size inb_S3_S1_1)).squeeze S_ squeezes_S1_S_).sem
/-- The semaphore of arrival 2. -/
abbrev recv2 : DmaSem sig :=
  ((cc0_scratch11.slice (Rect.unit (s := S3) ![2] S1.size inb_S3_S1_2)).squeeze S_ squeezes_S1_S_).sem
/-- The semaphores raised by arrivals, one per direction. -/
abbrev recvS : Fin 3 → DmaSem sig
  | 0 => recv0 | 1 => recv1 | 2 => recv2
/-- The semaphores of the seven local copies. -/
abbrev loadS : Fin 7 → DmaSem sig
  | 0 => ((cc0_scratch9.slice (Rect.unit (s := S7) ![0] S1.size inb_S7_S1_0)).squeeze S_ squeezes_S1_S_).sem
  | 1 => ((cc0_scratch9.slice (Rect.unit (s := S7) ![1] S1.size inb_S7_S1_1)).squeeze S_ squeezes_S1_S_).sem
  | 2 => ((cc0_scratch9.slice (Rect.unit (s := S7) ![2] S1.size inb_S7_S1_2)).squeeze S_ squeezes_S1_S_).sem
  | 3 => ((cc0_scratch9.slice (Rect.unit (s := S7) ![3] S1.size inb_S7_S1_3)).squeeze S_ squeezes_S1_S_).sem
  | 4 => ((cc0_scratch9.slice (Rect.unit (s := S7) ![4] S1.size inb_S7_S1_4)).squeeze S_ squeezes_S1_S_).sem
  | 5 => ((cc0_scratch9.slice (Rect.unit (s := S7) ![5] S1.size inb_S7_S1_5)).squeeze S_ squeezes_S1_S_).sem
  | 6 => ((cc0_scratch9.slice (Rect.unit (s := S7) ![6] S1.size inb_S7_S1_6)).squeeze S_ squeezes_S1_S_).sem

/-- The exchange's seven semaphores: the barrier, the three of departures, the three of arrivals. -/
abbrev csem : Fin 7 → SemLoc sig
  | 0 => .reg barS
  | 1 => .dma (sendS 0) | 2 => .dma (sendS 1) | 3 => .dma (sendS 2)
  | 4 => .dma (recvS 0) | 5 => .dma (recvS 1) | 6 => .dma (recvS 2)
/-- The cell of a device's exchange semaphore. -/
abbrev kcell (ck : Dev nD × Fin 7) : GSem nD τ sig := ((ck.1 : Thread nD τ), csem ck.2)

/-- Which of the exchange's semaphores a semaphore is, if any. -/
def kind (s : SemLoc sig) : Option (Fin 7) := (List.finRange 7).find? fun k => decide (csem k = s)

/-- An exchange semaphore is recognised as itself. -/
theorem kind_csem (k : Fin 7) : kind (csem k) = some k := by revert k; decide
/-- A semaphore of a local copy is outside the exchange. -/
theorem kind_loadS (k : Fin 7) : kind (.dma (loadS k)) = none := by revert k; decide
/-- The window's semaphore is outside the exchange. -/
theorem kind_stage : kind (.dma cc0_sem0_0) = none := by decide

/-- The credit of one packed buffer. -/
abbrev N : ℕ := (Memref.whole cc0_scratch6 : Memref sig .tc .vmem S8x4x66 .f32).view.dmaCredit
/-- A packed buffer has a positive credit. -/
theorem N_pos : 0 < N := View.dmaCredit_pos _ (by decide)

/-! ## The schedule -/

/-- The contents of a packed buffer. -/
abbrev Pack (F : FTy → Type) : Type := (cc0_scratch5 : Ref sig .tc).ty.Contents (Elt F)

/-- Landing buffer `j` of device `c`, whole, holding `f`. -/
def landPts : Fin 3 → Dev nD → Pack F → sProp 𝕄
  | 0, c, f => (Memref.whole cc0_scratch6).view.loc (c : Thread nD τ) ↦{fullShare} f
  | 1, c, f => (Memref.whole cc0_scratch7).view.loc (c : Thread nD τ) ↦{fullShare} f
  | 2, c, f => (Memref.whole cc0_scratch8).view.loc (c : Thread nD τ) ↦{fullShare} f

/-- The share of the packed buffer that transfer `j` reads under. -/
abbrev shr (j : Fin 3) : PosShare TreeShare := Transfers.shareTokN fullShare j.val

variable (PK : Dev nD → Pack F)

/-- What comes with a unit on semaphore `k` of device `c`, duty `d`. -/
def pay : Fin 7 → Dev nD → Fin 3 → sProp 𝕄
  | 0, c, d => iprop((∃ f, landPts d (pe d c) f) ∗ reached ER (kcell (pe d c, d.natAdd 4)) 0)
  | 1, c, _ => (Memref.whole cc0_scratch5).view.loc (c : Thread nD τ) ↦{shr 0} PK c
  | 2, c, _ => (Memref.whole cc0_scratch5).view.loc (c : Thread nD τ) ↦{shr 1} PK c
  | 3, c, _ => (Memref.whole cc0_scratch5).view.loc (c : Thread nD τ) ↦{shr 2} PK c
  | 4, c, _ => landPts 0 c (PK (pe 0 c))
  | 5, c, _ => landPts 1 c (PK (pe 1 c))
  | 6, c, _ => landPts 2 c (PK (pe 2 c))

/-- One round: three duties of one unit at a barrier cell, one of a buffer's credit at a departure or arrival cell. -/
def rd : Rounds.Schedule (GSem nD τ sig) (Fin 3) 𝕄 where
  duties g r := match kind g.2 with
    | some 0 => if r = 0 ∧ g.1.2 = .tc then Finset.univ else ∅
    | some _ => if r = 0 ∧ g.1.2 = .tc then {0} else ∅
    | none => ∅
  unitless _ := False
  amount g _ _ := match kind g.2 with
    | some 0 => 1
    | _ => N
  payload g _ d := match kind g.2 with
    | some k => pay PK k g.1.1 d
    | none => iprop(emp)
  amount_pos g _ _ _ := by
    split
    · exact Nat.one_pos
    · exact N_pos

instance landPts_storable (j : Fin 3) (c : Dev nD) (f : Pack F) : BI.Storable (upEmb : UEmb _ 𝕄) (landPts j c f) := by
  fin_cases j <;> (unfold landPts; infer_instance)

instance pay_storable (k : Fin 7) (c : Dev nD) (d : Fin 3) : BI.Storable (upEmb : UEmb _ 𝕄) (pay PK k c d) := by
  fin_cases k <;> (unfold pay; infer_instance)

instance rd_payload_storable (g : GSem nD τ sig) (r : ℕ) (d : Fin 3) :
    BI.Storable (upEmb : UEmb _ 𝕄) ((rd PK).payload g r d) := by
  unfold rd; dsimp only
  split <;> infer_instance

section Tables
variable (c : Dev nD)

omit [FloatOps F] in
theorem duties_bar : (rd PK).duties (kcell (c, 0)) 0 = Finset.univ := by
  unfold rd; dsimp only; rw [kind_csem]; exact if_pos ⟨rfl, rfl⟩
omit [FloatOps F] in
theorem duties_xfer (k : Fin 7) (hk : k ≠ 0) : (rd PK).duties (kcell (c, k)) 0 = {0} := by
  unfold rd; dsimp only; rw [kind_csem]
  split
  · rename_i h; exact absurd (Option.some.inj h) hk
  · exact if_pos ⟨rfl, rfl⟩
  · rename_i h; cases h
omit [FloatOps F] in
theorem duties_later (g : GSem nD τ sig) : ∀ r, 1 ≤ r → (rd PK).duties g r = ∅ := fun r hr => by
  unfold rd; dsimp only
  split
  · exact if_neg fun h => by omega
  · exact if_neg fun h => by omega
  · rfl
omit [FloatOps F] in
theorem amount_bar (d : Fin 3) : (rd PK).amount (kcell (c, 0)) 0 d = 1 := by
  unfold rd; dsimp only; rw [kind_csem]; rfl
omit [FloatOps F] in
theorem amount_xfer (k : Fin 7) (hk : k ≠ 0) (d : Fin 3) : (rd PK).amount (kcell (c, k)) 0 d = N := by
  unfold rd; dsimp only; rw [kind_csem]
  split
  · rename_i h; exact absurd (Option.some.inj h) hk
  · rfl
omit [FloatOps F] in
theorem expect_bar : (rd PK).expect (kcell (c, 0)) 0 = 3 := by
  unfold Schedule.expect Schedule.amountOf
  rw [duties_bar, Finset.sum_congr rfl fun d _ => amount_bar PK c d, Finset.sum_const, Finset.card_univ, Fintype.card_fin, smul_eq_mul]
omit [FloatOps F] in
theorem expect_xfer (k : Fin 7) (hk : k ≠ 0) : (rd PK).expect (kcell (c, k)) 0 = N := by
  unfold Schedule.expect Schedule.amountOf; rw [duties_xfer PK c k hk, Finset.sum_singleton, amount_xfer PK c k hk]
omit [FloatOps F] in
theorem payload_at (k : Fin 7) (d : Fin 3) : (rd PK).payload (kcell (c, k)) 0 d = pay PK k c d := by
  unfold rd; dsimp only; rw [kind_csem]

omit [FloatOps F] in
/-- The three payloads of a barrier round, one per direction. -/
theorem rest_bar : bigSep ((rd PK).duties (kcell (c, 0)) 0 \ ∅) (fun d => (rd PK).payload (kcell (c, 0)) 0 d)
    = iprop(pay PK 0 c 0 ∗ pay PK 0 c 1 ∗ pay PK 0 c 2) := by
  rw [Finset.sdiff_empty, duties_bar, bigSep_univ_eq_bigSepL [0, 1, 2] (by decide) (by decide), bigSepL_cons_cons, bigSepL_cons_cons,
    bigSepL_singleton, payload_at, payload_at, payload_at]
  rfl
omit [FloatOps F] in
/-- The one payload of a departure's or an arrival's round. -/
theorem rest_xfer (k : Fin 7) (hk : k ≠ 0) :
    bigSep ((rd PK).duties (kcell (c, k)) 0 \ ∅) (fun d => (rd PK).payload (kcell (c, k)) 0 d) = pay PK k c 0 := by
  rw [Finset.sdiff_empty, duties_xfer PK c k hk, bigSep_singleton, payload_at]

end Tables

/-! ## Debts and levels -/

/-- What a device owes its peers' arrival cells. -/
def Osend (c : Dev nD) : CellTallies nD τ sig Unit :=
  tallyAt (kcell (pe 2 c, 6)) () N + tallyAt (kcell (pe 1 c, 5)) () N + tallyAt (kcell (pe 0 c, 4)) () N
/-- What a device owes at launch: that, and a unit to each peer's barrier cell. -/
def O₀ (c : Dev nD) : CellTallies nD τ sig Unit :=
  Osend c + tallyAt (kcell (pe 2 c, 0)) () 1 + tallyAt (kcell (pe 1 c, 0)) () 1 + tallyAt (kcell (pe 0 c, 0)) () 1

/-- Each semaphore of a tensor core has one level. -/
def L (g : GSem nD τ sig) : Finset Unit := if g.1.2 = .tc then {()} else ∅
/-- Barrier cells at level 1, arrival cells at 2, every other semaphore at 0. -/
def lv (g : GSem nD τ sig) (_ : Unit) : ℕ := match kind g.2 with
  | some 0 => 1 | some 4 => 2 | some 5 => 2 | some 6 => 2 | _ => 0

/-- A thread that is not a tensor core has no level. -/
theorem L_of_ne (g : GSem nD τ sig) (h : g.1.2 ≠ .tc) : L g = ∅ := if_neg h
/-- A tensor core's semaphore has its one level. -/
theorem L_tc (c : Dev nD) (sm : SemLoc sig) : L ((c : Thread nD τ), sm) = {()} := if_pos rfl
/-- The levels of the exchange's cells. -/
theorem lv_kcell (c : Dev nD) (k : Fin 7) : lv (kcell (c, k)) () = (![1, 0, 0, 0, 2, 2, 2] : Fin 7 → ℕ) k := by
  unfold lv; dsimp only; rw [kind_csem]; fin_cases k <;> rfl

/-- Different exchange semaphores are different cells. -/
theorem kcell_injective : Function.Injective (kcell : Dev nD × Fin 7 → GSem nD τ sig) := by
  rintro ⟨c, k⟩ ⟨c', k'⟩ h
  have h1 : c = c' := congrArg (fun g : GSem nD τ sig => g.1.1) h
  have h2 : kind (csem k) = kind (csem k') := congrArg (fun g : GSem nD τ sig => kind g.2) h
  rw [kind_csem, kind_csem] at h2
  rw [h1, Option.some.inj h2]

/-- A positive sum of two tallies is positive in one of them. -/
theorem pos_of_add {a b : CellTallies nD τ sig Unit} {g : GSem nD τ sig} {u : Unit} (h : 0 < (a + b) g u) :
    0 < a g u ∨ 0 < b g u := by
  rw [Pi.add_apply, Finsupp.add_apply] at h; omega
/-- A tally at one cell is positive there only. -/
theorem pos_of_tally {g' g : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- A device's debt of transfers is at arrival cells only. -/
theorem Osend_pos {c : Dev nD} {g : GSem nD τ sig} {u : Unit} (h : 0 < Osend c g u) :
    ∃ d k, g = kcell (d, k) ∧ (k = 4 ∨ k = 5 ∨ k = 6) := by
  unfold Osend at h
  rcases pos_of_add h with h | h
  · rcases pos_of_add h with h | h
    · exact ⟨_, _, pos_of_tally h, .inr (.inr rfl)⟩
    · exact ⟨_, _, pos_of_tally h, .inr (.inl rfl)⟩
  · exact ⟨_, _, pos_of_tally h, .inl rfl⟩
/-- A device's debt at launch is at barrier and arrival cells only. -/
theorem O₀_pos {c : Dev nD} {g : GSem nD τ sig} {u : Unit} (h : 0 < O₀ c g u) :
    ∃ d k, g = kcell (d, k) ∧ (k = 0 ∨ k = 4 ∨ k = 5 ∨ k = 6) := by
  unfold O₀ at h
  rcases pos_of_add h with h | h
  · rcases pos_of_add h with h | h
    · rcases pos_of_add h with h | h
      · obtain ⟨d, k, hg, hk⟩ := Osend_pos h; exact ⟨d, k, hg, .inr hk⟩
      · exact ⟨_, _, pos_of_tally h, .inl rfl⟩
    · exact ⟨_, _, pos_of_tally h, .inl rfl⟩
  · exact ⟨_, _, pos_of_tally h, .inl rfl⟩

/-- A semaphore outside the exchange may be waited on whatever part of the launch debt is still owed. -/
theorem mayWait_other (c : Dev nD) (q : DmaSem sig) (hq : kind (.dma q) = none) (O : CellTallies nD τ sig Unit)
    (hO : ∀ g u, 0 < O g u → ∃ d k, g = kcell (d, k) ∧ (k = 0 ∨ k = 4 ∨ k = 5 ∨ k = 6)) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; unfold lv; dsimp only; rw [hq])
    (fun g u hg => by
      obtain ⟨d, k, rfl, hk⟩ := hO g u hg
      rw [lv_kcell]; rcases hk with rfl | rfl | rfl | rfl <;> decide)

/-- At its barrier wait a device owes arrivals only, which are above the barrier. -/
theorem mayWait_bar (c : Dev nD) : (levAts L lv : sProp 𝕄) ⊢ MayWait (c : Thread nD τ) (.reg barS) () (Osend c) :=
  MayOwe.of_cut (L := L) (lev := lv) 1 (fun p hp => by rw [Finset.mem_singleton.mp hp, L_tc]; exact Finset.mem_singleton_self _)
    (fun g u hg => by obtain ⟨d, k, rfl, -⟩ := Osend_pos hg; exact Finset.mem_singleton_self _)
    (fun p hp => by rw [Finset.mem_singleton.mp hp]; exact le_of_eq (lv_kcell c 0))
    (fun g u hg => by
      obtain ⟨d, k, rfl, hk⟩ := Osend_pos hg
      rw [lv_kcell]; rcases hk with rfl | rfl | rfl <;> decide)

/-! ## A device's ghost state -/

/-- The invariants a device's body opens: its own seven cells, its peers' barrier cells and the peers' arrival cells it
    sends to. -/
def invs (K : Dev nD × Fin 7 → ℕ) (c : Dev nD) : sProp 𝕄 :=
  iprop(cellInv ER (rd PK) (K (c, 0)) (kcell (c, 0))
    ∗ cellInv ER (rd PK) (K (c, 1)) (kcell (c, 1)) ∗ cellInv ER (rd PK) (K (c, 2)) (kcell (c, 2)) ∗ cellInv ER (rd PK) (K (c, 3)) (kcell (c, 3))
    ∗ cellInv ER (rd PK) (K (c, 4)) (kcell (c, 4)) ∗ cellInv ER (rd PK) (K (c, 5)) (kcell (c, 5)) ∗ cellInv ER (rd PK) (K (c, 6)) (kcell (c, 6))
    ∗ cellInv ER (rd PK) (K (pe 0 c, 0)) (kcell (pe 0 c, 0)) ∗ cellInv ER (rd PK) (K (pe 1 c, 0)) (kcell (pe 1 c, 0))
    ∗ cellInv ER (rd PK) (K (pe 2 c, 0)) (kcell (pe 2 c, 0))
    ∗ cellInv ER (rd PK) (K (pe 0 c, 4)) (kcell (pe 0 c, 4)) ∗ cellInv ER (rd PK) (K (pe 1 c, 5)) (kcell (pe 1 c, 5))
    ∗ cellInv ER (rd PK) (K (pe 2 c, 6)) (kcell (pe 2 c, 6)))

instance invs_persistent (K : Dev nD × Fin 7 → ℕ) (c : Dev nD) : BI.Persistent (invs PK K c) := by unfold invs; infer_instance

/-- First-round marks of the cells a device pays into: the peers' barrier cells, its own departure cells, and its own
    arrival cells (handed on with its landing buffers). -/
def marks (c : Dev nD) : sProp 𝕄 :=
  iprop(reached ER (kcell (pe 0 c, 0)) 0 ∗ reached ER (kcell (pe 1 c, 0)) 0 ∗ reached ER (kcell (pe 2 c, 0)) 0
    ∗ reached ER (kcell (c, 1)) 0 ∗ reached ER (kcell (c, 2)) 0 ∗ reached ER (kcell (c, 3)) 0
    ∗ reached ER (kcell (c, 4)) 0 ∗ reached ER (kcell (c, 5)) 0 ∗ reached ER (kcell (c, 6)) 0)

instance marks_persistent (c : Dev nD) : BI.Persistent (marks (F := F) c) := by unfold marks; infer_instance

/-- A device's positions at its seven cells. -/
def atCells (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0
    ∗ atPos ER (kcell (c, 4)) 0 ∅ 0 ∗ atPos ER (kcell (c, 5)) 0 ∅ 0 ∗ atPos ER (kcell (c, 6)) 0 ∅ 0)

/-- The duties a device pays: direction `j` at peer `j`'s barrier, its own departures, the peers' arrivals. -/
def payToks (c : Dev nD) : sProp 𝕄 :=
  iprop(dutyTok ER (kcell (pe 0 c, 0)) 0 0 ∗ dutyTok ER (kcell (pe 1 c, 0)) 0 1 ∗ dutyTok ER (kcell (pe 2 c, 0)) 0 2
    ∗ dutyTok ER (kcell (c, 1)) 0 0 ∗ dutyTok ER (kcell (c, 2)) 0 0 ∗ dutyTok ER (kcell (c, 3)) 0 0
    ∗ dutyTok ER (kcell (pe 0 c, 4)) 0 0 ∗ dutyTok ER (kcell (pe 1 c, 5)) 0 0 ∗ dutyTok ER (kcell (pe 2 c, 6)) 0 0)

/-- The exchange's ghost state of one device. -/
def ghost (K : Dev nD × Fin 7 → ℕ) (c : Dev nD) : sProp 𝕄 :=
  iprop(invs PK K c ∗ marks c ∗ atCells c ∗ payToks c)

/-- The counters of the local copies, at zero. -/
def loads0 (c : Dev nD) : sProp 𝕄 :=
  iprop(semVal ((c : Thread nD τ), .dma (loadS 0)) 0 ∗ semVal ((c : Thread nD τ), .dma (loadS 1)) 0 ∗ semVal ((c : Thread nD τ), .dma (loadS 2)) 0
    ∗ semVal ((c : Thread nD τ), .dma (loadS 3)) 0 ∗ semVal ((c : Thread nD τ), .dma (loadS 4)) 0 ∗ semVal ((c : Thread nD τ), .dma (loadS 5)) 0
    ∗ semVal ((c : Thread nD τ), .dma (loadS 6)) 0)

/-- The credit a device waits with: three units at its barrier, a buffer's worth at each arrival cell. -/
def credits (c : Dev nD) : sProp 𝕄 :=
  iprop(cred (tallyAt (kcell (c, 0)) () 3) ∗ cred (tallyAt (kcell (c, 4)) () N) ∗ cred (tallyAt (kcell (c, 5)) () N)
    ∗ cred (tallyAt (kcell (c, 6)) () N))

end Cert.Attn

end
-- ==== Proof.Spec.lean ====
/-
What the exchange carries and what each device returns, as functions of the devices' inputs.

Device `c` holds four of the eight heads and half of the pages. For head `h` it masks the scores of all its 1024
positions by how often the request uses each page, takes their maximum, weighs by the exponentials and multiplies by
the values; `packOf` is the buffer of those three results that it sends to its peers. `merged` joins two partial
results of one head, and `outOf` is the result a device returns: each head joined from the two devices that hold it.
-/
module

public import proofs.«01_k».proof.Proof.Protocol
public import Idealize.ShloMosaic.Lib.Pipeline.FrameBody

@[expose] public section

noncomputable section

namespace Cert.Attn

open Cert.KernelIdeal Cert.KernelIdeal.Gen

open Idealize.ShloMosaic
open Idealize.ShloMosaic.TcCoe

variable {F : FTy → Type} [FloatOps F]

/-! ## Where the heads lie -/

/-- A field of a packed head lies within the packed buffer. -/
theorem inb_field (h : ℕ) (hh : h < 4) (k : ℕ) (hk : k < 66) :
    ∀ a, (![0, h, k] : Fin 3 → Nat) a + S8x1x1.size a ≤ S8x4x66.size a := fun a => by
  fin_cases a <;> simp <;> omega
/-- A packed head's weighted values lie within the packed buffer. -/
theorem inb_partial (h : ℕ) (hh : h < 4) :
    ∀ a, (![0, h, 0] : Fin 3 → Nat) a + S8x1x64.size a ≤ S8x4x66.size a := fun a => by
  fin_cases a <;> simp <;> omega
/-- A head of the result lies within the result. -/
theorem inb_row (h : ℕ) (hh : h < 8) :
    ∀ a, (![0, 0, h, 0] : Fin 4 → Nat) a + S8x1x1x64.size a ≤ S8x1x8x64.size a := fun a => by
  fin_cases a <;> simp <;> omega
/-- Half the pages of a head lie within the device's block. -/
theorem inb_half (p h : ℕ) (hp : p + 32 ≤ 64) (hh : h < 4) :
    ∀ a, (![p, 0, h, 0] : Fin 4 → Nat) a + S32x16x1x64.size a ≤ S64x16x4x64.size a := fun a => by
  fin_cases a <;> simp <;> omega
/-- All the pages of a head lie within the device's block. -/
theorem inb_all (h : ℕ) (hh : h < 4) :
    ∀ a, (![0, 0, h, 0] : Fin 4 → Nat) a + S64x16x1x64.size a ≤ S64x16x4x64.size a := fun a => by
  fin_cases a <;> simp <;> omega
/-- Half the pages lie within the device's block. -/
theorem inb_pages (p : ℕ) (hp : p + 32 ≤ 64) :
    ∀ a, (![p, 0, 0, 0] : Fin 4 → Nat) a + S32x16x4x64.size a ≤ S64x16x4x64.size a := fun a => by
  fin_cases a <;> simp <;> omega

/-- The mesh coordinate of a device along `x`, as the kernel computes it. -/
def xOf (c : Dev nD) : BitVec 32 := Scalar.remsi (Scalar.divsi (BitVec.ofNat 32 c.val) 2#32) 2#32
/-- The mesh coordinate of a device along `y`, as the kernel computes it. -/
def yOf (c : Dev nD) : BitVec 32 := Scalar.remsi (Scalar.divsi (BitVec.ofNat 32 c.val) 1#32) 2#32
/-- Whether a device holds the first four heads. -/
def firstHeads (c : Dev nD) : BitVec 1 := Scalar.cmpi .eq (xOf c) 0#32

/-! ## What a device reads -/

/-- A head's row of an array of eight heads. -/
def rowOf (X : Vec F S8x1x8x64 .f32) (h : ℕ) (hh : h < 8) : FVec F S8x64 .f32 :=
  shapeCast S8x64 (fun i => X ((Rect.unit (s := S8x1x8x64) ![0, 0, h, 0] S8x1x1x64.size (inb_row h hh)).idx i))
    shapeCasts_S8x1x1x64_S8x64

/-- A device's query for its head `h`, scaled. -/
def query (c : Dev nD) (Q : Vec F S8x1x8x64 .f32) (h : ℕ) (hh : h < 4) : FVec F S8x64 .bf16 :=
  truncf .bf16 (mulf (Scalar.select (firstHeads c) (rowOf Q h (by omega)) (rowOf Q (h + 4) (by omega)))
    (broadcast S8x64 (Scalar.ofBits .f32 0x3E000000#32))) bitsLt_bf16_f32

/-- The two halves of a device's pages, cut to its heads, as they are laid in its scratch: last written first. -/
def pagesOf (c : Dev nD) (X : Vec F S64x16x8x64 .f32) : List (View.Piece (Elt F) S64x16x4x64 .f32) :=
  [⟨Rect.unit ![32, 0, 0, 0] S32x16x4x64.size (inb_pages 32 (by decide)),
      fun i => X ((Rect.unit (s := S64x16x8x64) (k0_off2 c) S32x16x4x64.size (k0_off2_inb c)).idx i)⟩,
   ⟨Rect.unit ![0, 0, 0, 0] S32x16x4x64.size (inb_pages 0 (by decide)),
      fun i => X ((Rect.unit (s := S64x16x8x64) (k0_off1 c) S32x16x4x64.size (k0_off1_inb c)).idx i)⟩]

/-- A half of a head's keys, from page `p` on. -/
def keys (c : Dev nD) (K : Vec F S64x16x8x64 .f32) (p h : ℕ) (hp : p + 32 ≤ 64) (hh : h < 4) : FVec F S512x64 .bf16 :=
  truncf .bf16 (shapeCast S512x64 (shapeCast S32x16x64
    ((Memref.whole cc0_scratch3).view.readCov (pagesOf c K)
      (Rect.unit (s := S64x16x4x64) ![p, 0, h, 0] S32x16x1x64.size (inb_half p h hp hh)).toLoadRect)
    shapeCasts_S32x16x1x64_S32x16x64) shapeCasts_S32x16x64_S512x64) bitsLt_bf16_f32

/-- A head's values. -/
def values (c : Dev nD) (V : Vec F S64x16x8x64 .f32) (h : ℕ) (hh : h < 4) : FVec F S1024x64 .bf16 :=
  truncf .bf16 (shapeCast S1024x64 (shapeCast S64x16x64
    ((Memref.whole cc0_scratch4).view.readCov (pagesOf c V)
      (Rect.unit (s := S64x16x4x64) ![0, 0, h, 0] S64x16x1x64.size (inb_all h hh)).toLoadRect)
    shapeCasts_S64x16x1x64_S64x16x64) shapeCasts_S64x16x64_S1024x64) bitsLt_bf16_f32

/-! ## How often a request uses a page -/

/-- A request's length lies within the lengths. -/
theorem inb_word (b : ℕ) (hb : b < 8) : ∀ a, (![b] : Fin 1 → Nat) a + S1.size a ≤ S8.size a := fun a => by
  fin_cases a; simp; omega

/-- The `b`-th request's number of pages. -/
def lensAt (L : IVec S8 32) (b : ℕ) (hb : b < 8) : BitVec 32 :=
  L ((Rect.unit (s := S8) ![b] S1.size (inb_word b hb)).idx (Shape.Idx.first (s := S1) (by decide)))

/-- Per request and local page, how many of the request's pages are that one. -/
def uses (c : Dev nD) (B : IVec S8x64 32) (L : IVec S8 32) : FVec F S8x64 .f32 :=
  k0_pay2 (F := F) (yOf c) (broadcast S1x64 (lensAt L 0 (by decide))) (lensAt L 1 (by decide)) (lensAt L 2 (by decide))
    (lensAt L 3 (by decide)) (lensAt L 4 (by decide)) (lensAt L 5 (by decide)) (lensAt L 6 (by decide))
    (lensAt L 7 (by decide))
    (fun i => B ((Rect.unit (s := S8x64) ![0, 0] S8x64.size inb_S8x64_S8x64_0_0).idx i))

/-- The same per position: sixteen positions to a page. -/
def weights (c : Dev nD) (B : IVec S8x64 32) (L : IVec S8 32) : FVec F S8x1024 .f32 :=
  k0_pay5 (uses c B L) (iota .tc S64x1024 32 [0] iota_S64x1024_d0_w32) (iota .tc S64x1024 32 [1] iota_S64x1024_d1_w32)
    16#32 k0_pay3 k0_pay4 1#32 0#1

/-! ## One head on one device -/

/-- The scores of a head, the positions of unused pages at the mask's value. -/
def scores (w : FVec F S8x1024 .f32) (q : FVec F S8x64 .bf16) (k₀ k₁ : FVec F S512x64 .bf16) : FVec F S8x1024 .f32 :=
  select (cmpf .ogt w (broadcast S8x1024 (Scalar.ofBits .f32 0x00000000#32)))
    (concatenate S8x1024 1
      [⟨S8x512, matmul dot_S8x64_S512x64_S8x512_1_1_0_0_n_n none q k₀ (constant S8x512 .f32 0x00000000#32)⟩,
       ⟨S8x512, matmul dot_S8x64_S512x64_S8x512_1_1_0_0_n_n none q k₁ (constant S8x512 .f32 0x00000000#32)⟩]
      concatenates_S8x512_S8x512_S8x1024_d1)
    (broadcast S8x1024 (Scalar.ofBits .f32 0xF149F2CA#32))

/-- The largest score. -/
def maxOf (s : FVec F S8x1024 .f32) : FVec F S8x1 .f32 :=
  shapeCast S8x1 (multiReduction .maximumf [1] S8 s 0xFF800000#32 reduces_S8x1024_S8 (.inl rfl) rfl) shapeCasts_S8_S8x1

/-- The weighted exponentials. -/
def expOf (w s : FVec F S8x1024 .f32) : FVec F S8x1024 .f32 :=
  mulf w (exp (subf s (broadcastTo S8x1024 (maxOf s) broadcasts_S8x1_S8x1024)))

/-- Their sum. -/
def sumOf (p : FVec F S8x1024 .f32) : FVec F S8x1 .f32 :=
  shapeCast S8x1 (multiReduction .add [1] S8 p 0x00000000#32 reduces_S8x1024_S8 (.inl rfl) rfl) shapeCasts_S8_S8x1

/-- The weighted sum of the values. -/
def dotOf (p : FVec F S8x1024 .f32) (v : FVec F S1024x64 .bf16) : FVec F S8x64 .f32 :=
  matmul dot_S8x1024_S1024x64_S8x64_1_0_0_1_n_n none (truncf .bf16 p bitsLt_bf16_f32) v (constant S8x64 .f32 0x00000000#32)

section Device

variable (c : Dev nD) (Q : Vec F S8x1x8x64 .f32) (K V : Vec F S64x16x8x64 .f32) (B : IVec S8x64 32) (L : IVec S8 32)

/-- A device's scores for its head `h`. -/
def scoresAt (h : ℕ) (hh : h < 4) : FVec F S8x1024 .f32 :=
  scores (weights c B L) (query c Q h hh) (keys c K 0 h (by decide) hh) (keys c K 32 h (by decide) hh)
/-- A device's largest score for its head `h`. -/
def maxAt (h : ℕ) (hh : h < 4) : FVec F S8x1 .f32 := maxOf (scoresAt c Q K B L h hh)
/-- A device's weighted exponentials for its head `h`. -/
def expAt (h : ℕ) (hh : h < 4) : FVec F S8x1024 .f32 := expOf (weights c B L) (scoresAt c Q K B L h hh)
/-- Their sum. -/
def sumAt (h : ℕ) (hh : h < 4) : FVec F S8x1 .f32 := sumOf (expAt c Q K B L h hh)
/-- A device's weighted sum of the values for its head `h`. -/
def dotAt (h : ℕ) (hh : h < 4) : FVec F S8x64 .f32 := dotOf (expAt c Q K B L h hh) (values c V h hh)

/-- The three writes that lay head `h` in the packed buffer, last first. -/
def packHead (h : ℕ) (hh : h < 4) : List (View.Piece (Elt F) S8x4x66 .f32) :=
  [⟨Rect.unit ![0, h, 65] S8x1x1.size (inb_field h hh 65 (by decide)),
      shapeCast S8x1x1 (sumAt c Q K B L h hh) shapeCasts_S8x1_S8x1x1⟩,
   ⟨Rect.unit ![0, h, 64] S8x1x1.size (inb_field h hh 64 (by decide)),
      shapeCast S8x1x1 (maxAt c Q K B L h hh) shapeCasts_S8x1_S8x1x1⟩,
   ⟨Rect.unit ![0, h, 0] S8x1x64.size (inb_partial h hh),
      shapeCast S8x1x64 (dotAt c Q K V B L h hh) shapeCasts_S8x64_S8x1x64⟩]

/-- The packed buffer of a device. -/
def packOf : Pack F :=
  View.canon (packHead c Q K V B L 3 (by decide) ++ packHead c Q K V B L 2 (by decide)
    ++ packHead c Q K V B L 1 (by decide) ++ packHead c Q K V B L 0 (by decide))

end Device

/-! ## Joining -/

/-- Two partial results of one head joined: rescaled to the larger maximum, added, divided. -/
def merged (m₁ l₁ : FVec F S8x1 .f32) (o₁ : FVec F S8x64 .f32) (m₂ l₂ : FVec F S8x1 .f32) (o₂ : FVec F S8x64 .f32) :
    FVec F S8x64 .f32 :=
  divf
    (addf (mulf o₁ (broadcastTo S8x64 (exp (subf m₁ (maximumf m₁ m₂))) broadcasts_S8x1_S8x64))
      (mulf o₂ (broadcastTo S8x64 (exp (subf m₂ (maximumf m₁ m₂))) broadcasts_S8x1_S8x64)))
    (broadcastTo S8x64 (addf (mulf l₁ (exp (subf m₁ (maximumf m₁ m₂)))) (mulf l₂ (exp (subf m₂ (maximumf m₁ m₂)))))
      broadcasts_S8x1_S8x64)

/-- The number kept at place `k` of head `h` of a packed buffer. -/
def fieldOf (p : Pack F) (h : ℕ) (hh : h < 4) (k : ℕ) (hk : k < 66) : FVec F S8x1 .f32 :=
  shapeCast S8x1 (fun i => p ((Rect.unit (s := S8x4x66) ![0, h, k] S8x1x1.size (inb_field h hh k hk)).idx i)
    : Vec F S8x1x1 .f32) shapeCasts_S8x1x1_S8x1
/-- The weighted sum kept for head `h` in a packed buffer. -/
def partialOf (p : Pack F) (h : ℕ) (hh : h < 4) : FVec F S8x64 .f32 :=
  shapeCast S8x64 (fun i => p ((Rect.unit (s := S8x4x66) ![0, h, 0] S8x1x64.size (inb_partial h hh)).idx i)
    : Vec F S8x1x64 .f32) shapeCasts_S8x1x64_S8x64

section Device

variable (PK : Dev nD → Pack F)
variable (c : Dev nD) (Q : Vec F S8x1x8x64 .f32) (K V : Vec F S64x16x8x64 .f32) (B : IVec S8x64 32) (L : IVec S8 32)

/-- A device's own head `h`: its partial result joined with the one of the peer across `y`. -/
def mine (h : ℕ) (hh : h < 4) : FVec F S8x64 .f32 :=
  merged (maxAt c Q K B L h hh) (sumAt c Q K B L h hh) (dotAt c Q K V B L h hh)
    (fieldOf (PK (pe 0 c)) h hh 64 (by decide)) (fieldOf (PK (pe 0 c)) h hh 65 (by decide)) (partialOf (PK (pe 0 c)) h hh)
/-- Head `h` of the devices across `x`: what the two of them sent, joined. -/
def theirs (h : ℕ) (hh : h < 4) : FVec F S8x64 .f32 :=
  merged (fieldOf (PK (pe 1 c)) h hh 64 (by decide)) (fieldOf (PK (pe 1 c)) h hh 65 (by decide)) (partialOf (PK (pe 1 c)) h hh)
    (fieldOf (PK (pe 2 c)) h hh 64 (by decide)) (fieldOf (PK (pe 2 c)) h hh 65 (by decide)) (partialOf (PK (pe 2 c)) h hh)

/-- The two writes that lay the heads `h` and `h + 4` in the result, last first. -/
def outHead (h : ℕ) (hh : h < 4) : List (View.Piece (Elt F) S8x1x8x64 .f32) :=
  [⟨Rect.unit ![0, 0, h + 4, 0] S8x1x1x64.size (inb_row (h + 4) (by omega)),
      shapeCast S8x1x1x64 (Scalar.select (firstHeads c) (theirs PK c h hh) (mine PK c Q K V B L h hh))
        shapeCasts_S8x64_S8x1x1x64⟩,
   ⟨Rect.unit ![0, 0, h, 0] S8x1x1x64.size (inb_row h (by omega)),
      shapeCast S8x1x1x64 (Scalar.select (firstHeads c) (mine PK c Q K V B L h hh) (theirs PK c h hh))
        shapeCasts_S8x64_S8x1x1x64⟩]

/-- The writes that fill the result. -/
def outPieces : List (View.Piece (Elt F) S8x1x8x64 .f32) :=
  outHead PK c Q K V B L 3 (by decide) ++ outHead PK c Q K V B L 2 (by decide)
    ++ outHead PK c Q K V B L 1 (by decide) ++ outHead PK c Q K V B L 0 (by decide)

/-- The writes of a pair of heads are among those that fill the result. -/
theorem mem_outPieces (h : ℕ) (hh : h < 4) (p : View.Piece (Elt F) S8x1x8x64 .f32) (hp : p ∈ outHead PK c Q K V B L h hh) :
    p ∈ outPieces PK c Q K V B L := by
  unfold outPieces
  simp only [List.mem_append]
  obtain rfl | rfl | rfl | rfl : h = 0 ∨ h = 1 ∨ h = 2 ∨ h = 3 := by omega
  · exact .inr hp
  · exact .inl (.inr hp)
  · exact .inl (.inl (.inr hp))
  · exact .inl (.inl (.inl hp))

/-- An element of head `h` is reached by the write of head `h`. -/
theorem mem_row (y : S8x1x8x64.Idx) (h : ℕ) (hh : h < 8) (e : (y 2).val = h) :
    y ∈ (Rect.unit (s := S8x1x8x64) ![0, 0, h, 0] S8x1x1x64.size (inb_row h hh)).set := by
  have h0 := (y 0).isLt; have h1 := (y 1).isLt; have h3 := (y 3).isLt
  refine Rect.mem_set_unit.mpr fun a => ?_
  fin_cases a
  · exact ⟨Nat.zero_le _, h0⟩
  · exact ⟨Nat.zero_le _, h1⟩
  · exact ⟨e.ge, e.le.trans_lt (Nat.lt_succ_self h)⟩
  · exact ⟨Nat.zero_le _, h3⟩

/-- The writes reach every element of the result. -/
theorem outPieces_cover (y : S8x1x8x64.Idx) : ∃ p ∈ outPieces PK c Q K V B L, y ∈ p.1.set := by
  have h2 : (y 2).val < 8 := (y 2).isLt
  by_cases hlt : (y 2).val < 4
  · exact ⟨_, mem_outPieces PK c Q K V B L _ hlt _ (List.mem_cons_of_mem _ List.mem_cons_self), mem_row y _ h2 rfl⟩
  · exact ⟨_, mem_outPieces PK c Q K V B L ((y 2).val - 4) (by omega) _ List.mem_cons_self, mem_row y _ (by omega) (by omega)⟩

/-- The result a device returns. -/
def outOf : Vec F S8x1x8x64 .f32 := View.canon (outPieces PK c Q K V B L)

end Device

end Cert.Attn
end
-- ==== Proof.Body.lean ====
/-
One device's run of the kernel: from its inputs, its scratch and its part of the exchange to its result.
-/
module

public import proofs.«01_k».proof.Proof.Spec

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig Unit (Elt F) ℕ UU ℕ
variable (PK : Dev nD → Pack F)

/-- No loop of the body has a variant. -/
abbrev 𝒱₀ : Variants := Variants.none

/-- Each direction is one of the barrier cell's duties. -/
theorem sem_mem (k : Fin 3) (c : Dev nD) : k ∈ (rd PK).duties ((c : Thread nD τ), SemLoc.reg barS) 0 := by
  rw [show (rd PK).duties ((c : Thread nD τ), SemLoc.reg barS) 0 = Finset.univ from duties_bar PK c]; exact Finset.mem_univ _
/-- The barrier cell has three duties, one for each peer. -/
theorem t_duties_bar (c : Dev nD) : (rd PK).duties ((c : Thread nD τ), SemLoc.reg barS) 0 = {0, 1, 2} := duties_bar PK c
/-- Each duty at the barrier cell is one unit. -/
theorem t_amount_bar (c : Dev nD) (d : Fin 3) : (rd PK).amount ((c : Thread nD τ), SemLoc.reg barS) 0 d = 1 := amount_bar PK c d
/-- The barrier cell expects three units. -/
theorem t_expect_bar (c : Dev nD) : (rd PK).expect ((c : Thread nD τ), SemLoc.reg barS) 0 = 3 := expect_bar PK c
/-- What the signal from the peer in direction `j` brings: that peer's landing buffer, and the first-round mark of
    its arrival cell. -/
theorem t_pay_bar (j : Fin 3) (c : Dev nD) : (rd PK).payload ((c : Thread nD τ), SemLoc.reg barS) 0 j
   = iprop((∃ f, landPts j (pe j c) f) ∗ reached ER (kcell (pe j c, j.natAdd 4)) 0) := payload_at PK c 0 j

/-- The landing buffer of direction 0 is `cc0_scratch6`. -/
theorem lp0 (c : Dev nD) (f : Pack F) : landPts 0 c f = ((Memref.whole cc0_scratch6).view.loc (c : Thread nD τ) ↦{fullShare} f) := rfl
/-- The landing buffer of direction 1 is `cc0_scratch7`. -/
theorem lp1 (c : Dev nD) (f : Pack F) : landPts 1 c f = ((Memref.whole cc0_scratch7).view.loc (c : Thread nD τ) ↦{fullShare} f) := rfl
/-- The landing buffer of direction 2 is `cc0_scratch8`. -/
theorem lp2 (c : Dev nD) (f : Pack F) : landPts 2 c f = ((Memref.whole cc0_scratch8).view.loc (c : Thread nD τ) ↦{fullShare} f) := rfl
/-- A departure cell has one duty. -/
theorem t_duties_send (j : Fin 3) (c : Dev nD) : (rd PK).duties ((c : Thread nD τ), .dma (sendS j)) 0 = {0} := by
  fin_cases j
  · exact duties_xfer PK c 1 (by decide)
  · exact duties_xfer PK c 2 (by decide)
  · exact duties_xfer PK c 3 (by decide)
/-- An arrival cell has one duty. -/
theorem t_duties_recv (j : Fin 3) (c : Dev nD) : (rd PK).duties ((c : Thread nD τ), .dma (recvS j)) 0 = {0} := by
  fin_cases j
  · exact duties_xfer PK c 4 (by decide)
  · exact duties_xfer PK c 5 (by decide)
  · exact duties_xfer PK c 6 (by decide)
/-- The duty at a departure cell is the credit of one packed buffer. -/
theorem t_amount_send (j : Fin 3) (c : Dev nD) (d : Fin 3) : (rd PK).amount ((c : Thread nD τ), .dma (sendS j)) 0 d = N := by
  fin_cases j
  · exact amount_xfer PK c 1 (by decide) d
  · exact amount_xfer PK c 2 (by decide) d
  · exact amount_xfer PK c 3 (by decide) d
/-- The duty at an arrival cell is the credit of one packed buffer. -/
theorem t_amount_recv (j : Fin 3) (c : Dev nD) (d : Fin 3) : (rd PK).amount ((c : Thread nD τ), .dma (recvS j)) 0 d = N := by
  fin_cases j
  · exact amount_xfer PK c 4 (by decide) d
  · exact amount_xfer PK c 5 (by decide) d
  · exact amount_xfer PK c 6 (by decide) d
/-- A departure cell expects the credit of one packed buffer. -/
theorem t_expect_send (j : Fin 3) (c : Dev nD) : (rd PK).expect ((c : Thread nD τ), .dma (sendS j)) 0 = N := by
  fin_cases j
  · exact expect_xfer PK c 1 (by decide)
  · exact expect_xfer PK c 2 (by decide)
  · exact expect_xfer PK c 3 (by decide)
/-- An arrival cell expects the credit of one packed buffer. -/
theorem t_expect_recv (j : Fin 3) (c : Dev nD) : (rd PK).expect ((c : Thread nD τ), .dma (recvS j)) 0 = N := by
  fin_cases j
  · exact expect_xfer PK c 4 (by decide)
  · exact expect_xfer PK c 5 (by decide)
  · exact expect_xfer PK c 6 (by decide)
/-- A departure gives back the share of the packed buffer that the transfer read. -/
theorem t_pay_send (j : Fin 3) (c : Dev nD) : (rd PK).payload ((c : Thread nD τ), .dma (sendS j)) 0 0
    = ((Memref.whole cc0_scratch5).view.loc (c : Thread nD τ) ↦{shr j} PK c) := by
  fin_cases j
  · exact payload_at PK c 1 0
  · exact payload_at PK c 2 0
  · exact payload_at PK c 3 0
/-- An arrival gives the landing buffer, holding what the peer packed. -/
theorem t_pay_recv (j : Fin 3) (c : Dev nD) : (rd PK).payload ((c : Thread nD τ), .dma (recvS j)) 0 0
    = landPts j c (PK (pe j c)) := by
  fin_cases j
  · exact payload_at PK c 4 0
  · exact payload_at PK c 5 0
  · exact payload_at PK c 6 0

/-- The packed buffer after its writes, by what they leave. -/
theorem writes5 (c : Dev nD) (L : List (View.Piece (Elt F) S8x4x66 .f32)) (h : View.canon L = PK c) :
    (Memref.whole cc0_scratch5).view.writes (Elt F) (Memref.whole cc0_scratch5).view.junk L = PK c :=
  (View.read_writes_junk_eq_canon (View.whole cc0_scratch5) L).trans h

/-- The packed buffer shared out: a share for each transfer and one kept. -/
theorem split5 (c : Dev nD) (f : Pack F) :
    ((Memref.whole cc0_scratch5).view.loc (c : Thread nD τ) ↦{fullShare} f : sProp 𝕄)
      ⊣⊢ iprop(((Memref.whole cc0_scratch5).view.loc (c : Thread nD τ) ↦{Transfers.shareDrop fullShare 3} f)
        ∗ ((Memref.whole cc0_scratch5).view.loc (c : Thread nD τ) ↦{shr 0} f)
        ∗ ((Memref.whole cc0_scratch5).view.loc (c : Thread nD τ) ↦{shr 1} f)
        ∗ ((Memref.whole cc0_scratch5).view.loc (c : Thread nD τ) ↦{shr 2} f)) := by
  have h := Transfers.pointsTo_toks_range (nD := nD) (τ := τ) (sig := sig) (Ix := Unit) (Val := Elt F) (Name := ℕ) (U := UU) (Lvl := ℕ)
    (ℓ := (Memref.whole cc0_scratch5).view.loc (c : Thread nD τ)) (S := Finset.univ) (f := f) fullShare 3
  rw [show Finset.range 3 = {0, 1, 2} from rfl, bigSep_insert (by decide), bigSep_insert (by decide), bigSep_singleton] at h
  exact h

/-- The duties of the six transfer cells, by the names the body uses. -/
theorem x_duties (c : Dev nD) :
    ((rd PK).duties ((c : Thread nD τ), .dma send0) 0 = {0} ∧ (rd PK).duties ((c : Thread nD τ), .dma send1) 0 = {0}
      ∧ (rd PK).duties ((c : Thread nD τ), .dma send2) 0 = {0})
    ∧ (rd PK).duties ((c : Thread nD τ), .dma recv0) 0 = {0} ∧ (rd PK).duties ((c : Thread nD τ), .dma recv1) 0 = {0}
      ∧ (rd PK).duties ((c : Thread nD τ), .dma recv2) 0 = {0} :=
  ⟨⟨t_duties_send PK 0 c, t_duties_send PK 1 c, t_duties_send PK 2 c⟩, t_duties_recv PK 0 c, t_duties_recv PK 1 c, t_duties_recv PK 2 c⟩
/-- The amounts of the six transfer cells, by the names the body uses. -/
theorem x_amount (c : Dev nD) (d : Fin 3) :
    ((rd PK).amount ((c : Thread nD τ), .dma send0) 0 d = N ∧ (rd PK).amount ((c : Thread nD τ), .dma send1) 0 d = N
      ∧ (rd PK).amount ((c : Thread nD τ), .dma send2) 0 d = N)
    ∧ (rd PK).amount ((c : Thread nD τ), .dma recv0) 0 d = N ∧ (rd PK).amount ((c : Thread nD τ), .dma recv1) 0 d = N
      ∧ (rd PK).amount ((c : Thread nD τ), .dma recv2) 0 d = N :=
  ⟨⟨t_amount_send PK 0 c d, t_amount_send PK 1 c d, t_amount_send PK 2 c d⟩, t_amount_recv PK 0 c d, t_amount_recv PK 1 c d, t_amount_recv PK 2 c d⟩
/-- What the six transfer cells expect, by the names the body uses. -/
theorem x_expect (c : Dev nD) :
    ((rd PK).expect ((c : Thread nD τ), .dma send0) 0 = N ∧ (rd PK).expect ((c : Thread nD τ), .dma send1) 0 = N
      ∧ (rd PK).expect ((c : Thread nD τ), .dma send2) 0 = N)
    ∧ (rd PK).expect ((c : Thread nD τ), .dma recv0) 0 = N ∧ (rd PK).expect ((c : Thread nD τ), .dma recv1) 0 = N
      ∧ (rd PK).expect ((c : Thread nD τ), .dma recv2) 0 = N :=
  ⟨⟨t_expect_send PK 0 c, t_expect_send PK 1 c, t_expect_send PK 2 c⟩, t_expect_recv PK 0 c, t_expect_recv PK 1 c, t_expect_recv PK 2 c⟩
/-- What the three departures give back, by the names the body uses. -/
theorem x_pay_send (c : Dev nD) :
    (rd PK).payload ((c : Thread nD τ), .dma send0) 0 0 = ((Memref.whole cc0_scratch5).view.loc (c : Thread nD τ) ↦{shr 0} PK c)
    ∧ (rd PK).payload ((c : Thread nD τ), .dma send1) 0 0 = ((Memref.whole cc0_scratch5).view.loc (c : Thread nD τ) ↦{shr 1} PK c)
    ∧ (rd PK).payload ((c : Thread nD τ), .dma send2) 0 0 = ((Memref.whole cc0_scratch5).view.loc (c : Thread nD τ) ↦{shr 2} PK c) :=
  ⟨t_pay_send PK 0 c, t_pay_send PK 1 c, t_pay_send PK 2 c⟩
/-- What the three arrivals give, by the names the body uses. -/
theorem x_pay_recv (c : Dev nD) :
    (rd PK).payload ((c : Thread nD τ), .dma recv0) 0 0 = ((Memref.whole cc0_scratch6).view.loc (c : Thread nD τ) ↦{fullShare} PK (pe 0 c))
    ∧ (rd PK).payload ((c : Thread nD τ), .dma recv1) 0 0 = ((Memref.whole cc0_scratch7).view.loc (c : Thread nD τ) ↦{fullShare} PK (pe 1 c))
    ∧ (rd PK).payload ((c : Thread nD τ), .dma recv2) 0 0 = ((Memref.whole cc0_scratch8).view.loc (c : Thread nD τ) ↦{fullShare} PK (pe 2 c)) :=
  ⟨t_pay_recv PK 0 c, t_pay_recv PK 1 c, t_pay_recv PK 2 c⟩
/-- A separating conjunction of three, in the form the body's steps take. -/
theorem sep_open (P Q R : sProp 𝕄) : BI.sep P (BI.sep Q R) ⊢ iprop(P ∗ Q ∗ R) := .rfl

attribute [local sl_rounds] x_duties x_amount x_expect x_pay_send x_pay_recv
attribute [local sl_rounds] t_duties_bar t_amount_bar t_expect_bar t_pay_bar sem_mem pe_pe lp0 lp1 lp2
theorem mayWait_load (c : Dev nD) (k : Fin 7) :
    (levAts L lv : sProp 𝕄) ⊢ MayWait (c : Thread nD τ) (.dma (loadS k)) () (Osend c) :=
  mayWait_other c (loadS k) (kind_loadS k) (Osend c) (fun g u h => by
    obtain ⟨d, k, hg, hk⟩ := Osend_pos h; exact ⟨d, k, hg, .inr hk⟩)

/-- A device's buffers whole: its arguments, its result, the staged lengths, its scratch and its landing buffers. -/
def bufs (c : Dev nD)
   (fQ : Buf (Elt F) ((c : Thread nD τ).loc main_arg0)) (fK : Buf (Elt F) ((c : Thread nD τ).loc main_arg1))
   (fV : Buf (Elt F) ((c : Thread nD τ).loc main_arg2)) (fB : Buf (Elt F) ((c : Thread nD τ).loc main_arg3))
   (fL : Buf (Elt F) ((c : Thread nD τ).loc cc0_stg0_0)) (fR : Buf (Elt F) ((c : Thread nD τ).loc main_v1))
   (f0 : Buf (Elt F) ((c : Thread nD τ).loc cc0_scratch0)) (f1 : Buf (Elt F) ((c : Thread nD τ).loc cc0_scratch1))
   (f2 : Buf (Elt F) ((c : Thread nD τ).loc cc0_scratch2)) (f3 : Buf (Elt F) ((c : Thread nD τ).loc cc0_scratch3))
   (f4 : Buf (Elt F) ((c : Thread nD τ).loc cc0_scratch4)) (f5 f6 f7 f8 : Pack F) : sProp 𝕄 :=
  iprop(((Memref.whole main_arg0).view.loc (c : Thread nD τ) ↦{fullShare} fQ)
      ∗ ((Memref.whole main_arg1).view.loc (c : Thread nD τ) ↦{fullShare} fK)
      ∗ ((Memref.whole main_arg2).view.loc (c : Thread nD τ) ↦{fullShare} fV)
      ∗ ((Memref.whole main_arg3).view.loc (c : Thread nD τ) ↦{fullShare} fB)
      ∗ ((Memref.whole main_v1).view.loc (c : Thread nD τ) ↦{fullShare} fR)
      ∗ ((Memref.whole cc0_stg0_0).view.loc (c : Thread nD τ) ↦{fullShare} fL)
      ∗ ((Memref.whole cc0_scratch0).view.loc (c : Thread nD τ) ↦{fullShare} f0)
      ∗ ((Memref.whole cc0_scratch1).view.loc (c : Thread nD τ) ↦{fullShare} f1)
      ∗ ((Memref.whole cc0_scratch2).view.loc (c : Thread nD τ) ↦{fullShare} f2)
      ∗ ((Memref.whole cc0_scratch3).view.loc (c : Thread nD τ) ↦{fullShare} f3)
      ∗ ((Memref.whole cc0_scratch4).view.loc (c : Thread nD τ) ↦{fullShare} f4)
      ∗ ((Memref.whole cc0_scratch5).view.loc (c : Thread nD τ) ↦{fullShare} f5)      ∗ landPts 0 c f6 ∗ landPts 1 c f7 ∗ landPts 2 c f8)

/-- What the copy out of the result's scratch reads: what the covering writes left. -/
theorem read2 (f : (cc0_scratch2 : Ref sig .tc).ty.Contents (Elt F)) (L : List (View.Piece (Elt F) S8x1x8x64 .f32))
    (X : List (View.Piece (Elt F) S8x1x8x64 .f32)) (hL : L = X) (hX : ∀ y, ∃ p ∈ X, y ∈ p.1.set) :
    (ReadAs.same (Val := Elt F)).apply (View.read (Elt F) (Memref.whole cc0_scratch2).view ((Memref.whole cc0_scratch2).view.writes (Elt F) f L))
      = View.canon X := by
  subst hL; exact View.read_writes_eq_canon (View.whole cc0_scratch2) f L hX

/-- What a device's body leaves: its exchange cells closed with their counters at zero, the counters of its local
    copies at zero, its inputs unchanged, `out` as its result, its scratch at some contents. -/
def bodyLeft (c : Dev nD)
   (fQ : Buf (Elt F) ((c : Thread nD τ).loc main_arg0)) (fK : Buf (Elt F) ((c : Thread nD τ).loc main_arg1))
   (fV : Buf (Elt F) ((c : Thread nD τ).loc main_arg2)) (fB : Buf (Elt F) ((c : Thread nD τ).loc main_arg3))
   (fL : Buf (Elt F) ((c : Thread nD τ).loc cc0_stg0_0)) (out : Buf (Elt F) ((c : Thread nD τ).loc main_v1)) : sProp 𝕄 :=
  iprop(∃ W f0 f1 f2 f3 f4 f5 f6 f7 f8, owes (c : Thread nD τ) 0 W ∗ loads0 c
      ∗ (semVal (kcell (c, 0)) 0 ∗ semVal (kcell (c, 1)) 0 ∗ semVal (kcell (c, 2)) 0 ∗ semVal (kcell (c, 3)) 0
        ∗ semVal (kcell (c, 4)) 0 ∗ semVal (kcell (c, 5)) 0 ∗ semVal (kcell (c, 6)) 0)
      ∗ bufs c fQ fK fV fB fL out f0 f1 f2 f3 f4 f5 f6 f7 f8)

set_option maxHeartbeats 8000000 in
/-- The kernel's body on one device. -/
theorem body_run (K : Dev nD × Fin 7 → ℕ) (c : Dev nD) (W : Waits sig Unit)
   (fQ : Buf (Elt F) ((c : Thread nD τ).loc main_arg0)) (fK : Buf (Elt F) ((c : Thread nD τ).loc main_arg1))
   (fV : Buf (Elt F) ((c : Thread nD τ).loc main_arg2)) (fB : Buf (Elt F) ((c : Thread nD τ).loc main_arg3))
   (fL : Buf (Elt F) ((c : Thread nD τ).loc cc0_stg0_0)) (fR : Buf (Elt F) ((c : Thread nD τ).loc main_v1))
   (f0 : Buf (Elt F) ((c : Thread nD τ).loc cc0_scratch0)) (f1 : Buf (Elt F) ((c : Thread nD τ).loc cc0_scratch1))
   (f2 : Buf (Elt F) ((c : Thread nD τ).loc cc0_scratch2)) (f3 : Buf (Elt F) ((c : Thread nD τ).loc cc0_scratch3))
   (f4 : Buf (Elt F) ((c : Thread nD τ).loc cc0_scratch4)) (f5 f6 f7 f8 : Pack F) (hPK : PK c = packOf c fQ fK fV fB fL) :
    iprop(ghost PK K c ∗ loads0 c ∗ credits c ∗ levAts L lv ∗ owes (c : Thread nD τ) (O₀ c) W
      ∗ bufs c fQ fK fV fB fL fR f0 f1 f2 f3 f4 f5 f6 f7 f8)
      ⊢ wp frame (wpE (defs₀ (F := F)) 𝒱₀ (c : Thread nD τ) none) Set.univ
          (cc0_body (Memref.whole main_arg0) (Memref.isWhole_whole _) (Memref.whole main_arg1) (Memref.isWhole_whole _) (Memref.whole main_arg2) (Memref.isWhole_whole _) (Memref.whole main_arg3) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11)
          (fun _ => bodyLeft c fQ fK fV fB fL (outOf PK c fQ fK fV fB fL)) := by
  unfold ghost invs marks atCells payToks loads0 credits O₀
  dsimp only [kcell, csem, loadS, sendS, recvS]
  simp only [cc0_body_eq_skeleton]; unfold cc0_body_skel
  simp only [k0_part18_eq_skeleton]; unfold k0_part18_skel
  unfold bufs; rw [lp0, lp1, lp2]
  iintro ⟨⟨⟨#HIb, #HIs0, #HIs1, #HIs2, #HIr0, #HIr1, #HIr2, #HIb0, #HIb1, #HIb2, #HIp0, #HIp1, #HIp2⟩, ⟨#Hrb0, #Hrb1, #Hrb2, #Hrs0, #Hrs1, #Hrs2, #Hrr0, #Hrr1, #Hrr2⟩,
     ⟨HaB, HaS0, HaS1, HaS2, HaR0, HaR1, HaR2⟩, ⟨HtB0, HtB1, HtB2, HtS0, HtS1, HtS2, HtR0, HtR1, HtR2⟩⟩, ⟨Hl0, Hl1, Hl2, Hl3, Hl4, Hl5, Hl6⟩, ⟨HcB, HcR0, HcR1, HcR2⟩, #Hlev, HO,
     HQ, HK, HV, HB, HR, HL, H0, H1, H2, H3, H4, H5, H6, H7, H8⟩
  have e1 := dev1_eq c; have e2 := dev2_eq c; have e3 := dev3_eq c
  ihave #HwB := (mayWait_bar c) $$ Hlev
  have hw0 := mayWait_load (F := F) c 0
  have hw1 := mayWait_load (F := F) c 1
  have hw2 := mayWait_load (F := F) c 2
  have hw3 := mayWait_load (F := F) c 3
  have hw4 := mayWait_load (F := F) c 4
  have hw5 := mayWait_load (F := F) c 5
  dsimp only [loadS] at hw0 hw1 hw2 hw3 hw4 hw5
  set_option sl_exec.dmaWindow true in set_option sl_exec.stopBefore "k0_part3" in sl_exec!
  rw [View.write_whole_univ, View.write_whole_univ]
  set_option sl_exec.dmaWindow true in sl_exec!
  ihave ⟨⟨⟨%g0, Hg0⟩, #Hpr0⟩, ⟨⟨%g1, Hg1⟩, #Hpr1⟩, ⟨%g2, Hg2⟩, #Hpr2⟩ := (sep_open _ _ _) $$ HaB_pay1
  rw [writes5 PK c]
  rotate_left
  · rw [hPK]; rfl
  ihave ⟨H5, Hs0, Hs1, Hs2⟩ := (split5 c (PK c)).1 $$ H5
  unfold Osend
  have e4 := dev4_eq c; have e5 := dev5_eq c; have e6 := dev6_eq c
  sl_exec!
  rw [View.write_whole_univ]
  rw [show body_run.sl.dma52 PK c fQ fK fV fB fL f2 = outOf PK c fQ fK fV fB fL from
    read2 _ _ (outPieces PK c fQ fK fV fB fL) rfl (outPieces_cover PK c fQ fK fV fB fL)]
  rw [wp_ret]
  imod (Rounds.cell_close ER (rd PK) (Set.mem_univ (K (c, 0))) (fun h => h) (R := 0 + 1) (duties_later PK (kcell (c, 0)))) $$ [HaB] with HzB
  · isplitr; · iexact HIb
    iexact HaB
  imod (Rounds.cell_close ER (rd PK) (Set.mem_univ (K (c, 1))) (fun h => h) (R := 0 + 1) (duties_later PK (kcell (c, 1)))) $$ [HaS0] with HzS0
  · isplitr; · iexact HIs0
    iexact HaS0
  imod (Rounds.cell_close ER (rd PK) (Set.mem_univ (K (c, 2))) (fun h => h) (R := 0 + 1) (duties_later PK (kcell (c, 2)))) $$ [HaS1] with HzS1
  · isplitr; · iexact HIs1
    iexact HaS1
  imod (Rounds.cell_close ER (rd PK) (Set.mem_univ (K (c, 3))) (fun h => h) (R := 0 + 1) (duties_later PK (kcell (c, 3)))) $$ [HaS2] with HzS2
  · isplitr; · iexact HIs2
    iexact HaS2
  imod (Rounds.cell_close ER (rd PK) (Set.mem_univ (K (c, 4))) (fun h => h) (R := 0 + 1) (duties_later PK (kcell (c, 4)))) $$ [HaR0] with HzR0
  · isplitr; · iexact HIr0
    iexact HaR0
  imod (Rounds.cell_close ER (rd PK) (Set.mem_univ (K (c, 5))) (fun h => h) (R := 0 + 1) (duties_later PK (kcell (c, 5)))) $$ [HaR1] with HzR1
  · isplitr; · iexact HIr1
    iexact HaR1
  imod (Rounds.cell_close ER (rd PK) (Set.mem_univ (K (c, 6))) (fun h => h) (R := 0 + 1) (duties_later PK (kcell (c, 6)))) $$ [HaR2] with HzR2
  · isplitr; · iexact HIr2
    iexact HaR2
  ihave H5 := (split5 c (PK c)).2 $$ [H5 HaS0_pay1 HaS1_pay1 HaS2_pay1]
  · isplitl [H5]; · iexact H5
    isplitl [HaS0_pay1]; · iexact HaS0_pay1
    isplitl [HaS1_pay1]; · iexact HaS1_pay1
    iexact HaS2_pay1
  imodintro
  unfold bodyLeft loads0 bufs
  iexists _, _, _, _, _, _, _, _, _, _
  isplitl [HO]; · iexact HO
  isplitl [Hl0 Hl1 Hl2 Hl3 Hl4 Hl5 Hl6]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  isplitl [HzB HzS0 HzS1 HzS2 HzR0 HzR1 HzR2]
  · isplitl [HzB]; · iexact HzB
    isplitl [HzS0]; · iexact HzS0
    isplitl [HzS1]; · iexact HzS1
    isplitl [HzS2]; · iexact HzS2
    isplitl [HzR0]; · iexact HzR0
    isplitl [HzR1]; · iexact HzR1
    iexact HzR2
  isplitl [HQ]; · iexact HQ
  isplitl [HK]; · iexact HK
  isplitl [HV]; · iexact HV
  isplitl [HB]; · iexact HB
  isplitl [HR]; · iexact HR
  isplitl [HL]; · iexact HL
  isplitl [H0]; · iexact H0
  isplitl [H1]; · iexact H1
  isplitl [H2]; · iexact H2
  isplitl [H3]; · iexact H3
  isplitl [H4]; · iexact H4
  isplitl [H5]; · iexact H5
  isplitl [HaR0_pay1]; · rw [lp0]; iexact HaR0_pay1
  isplitl [HaR1_pay1]; · rw [lp1]; iexact HaR1_pay1
  rw [lp2]; iexact HaR2_pay1

end Cert.Attn
end
-- ==== Proof.Launch.lean ====
/-
The launch: every device's start from the launch's resources, and the run of the whole program.
-/
module

public import proofs.«01_k».proof.Proof.Body
public import proofs.«01_k».proof.Proof.Gen.KernelIdeal.Points
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

/-! ## The exchange's cells and tokens at launch -/

section Exchange
variable (PK : Dev nD → Pack F)

/-- The kernel's own semaphores: seven of local copies, three of departures, three of arrivals. -/
abbrev osem : Fin 13 → SemLoc sig
  | 0 => .dma (loadS 0) | 1 => .dma (loadS 1) | 2 => .dma (loadS 2) | 3 => .dma (loadS 3) | 4 => .dma (loadS 4)
  | 5 => .dma (loadS 5) | 6 => .dma (loadS 6)
  | 7 => .dma (sendS 0) | 8 => .dma (sendS 1) | 9 => .dma (sendS 2)
  | 10 => .dma (recvS 0) | 11 => .dma (recvS 1) | 12 => .dma (recvS 2)

/-- The semaphores the body names are apart from the windows' and cover the scoped ones. -/
theorem ownSemFacts : Pipeline.OwnSemFacts cfg0.spec osem := by decide

/-- The cells of the exchange. -/
def xCells : Finset (GSem nD τ sig) := Finset.univ.map ⟨kcell, kcell_injective⟩

/-- The duties at one device's cells: three at the barrier, one at each departure and arrival. -/
abbrev tokOf (cj : Dev nD × Fin 9) : GSem nD τ sig × ℕ × Fin 3 := match cj.2 with
  | 0 => (kcell (cj.1, 0), 0, 0) | 1 => (kcell (cj.1, 0), 0, 1) | 2 => (kcell (cj.1, 0), 0, 2)
  | 3 => (kcell (cj.1, 1), 0, 0) | 4 => (kcell (cj.1, 2), 0, 0) | 5 => (kcell (cj.1, 3), 0, 0)
  | 6 => (kcell (cj.1, 4), 0, 0) | 7 => (kcell (cj.1, 5), 0, 0) | 8 => (kcell (cj.1, 6), 0, 0)
/-- Which of a device's duties a token stands for. -/
def tokIx (x : GSem nD τ sig × ℕ × Fin 3) : ℕ := match kind x.1.2 with
  | some 0 => x.2.2.val
  | some k => k.val + 2
  | none => 0
/-- A duty's number is read back from its token. -/
theorem tokIx_tokOf (c : Dev nD) (j : Fin 9) : tokIx (tokOf (c, j)) = j.val := by
  fin_cases j <;> (unfold tokIx; dsimp only [tokOf]; rw [kind_csem]; rfl)
/-- Different duties have different tokens. -/
theorem tokOf_injective : Function.Injective (tokOf : Dev nD × Fin 9 → GSem nD τ sig × ℕ × Fin 3) := by
  rintro ⟨c, j⟩ ⟨c', j'⟩ h
  have hj : j = j' := Fin.ext (by rw [← tokIx_tokOf c j, ← tokIx_tokOf c' j', h])
  subst hj
  have hc : c = c' := by
    have := congrArg (fun x : GSem nD τ sig × ℕ × Fin 3 => x.1.1.1) h
    fin_cases j <;> exact this
  rw [hc]
/-- The tokens of all duties of the exchange. -/
def xToks : Finset (GSem nD τ sig × ℕ × Fin 3) := Finset.univ.map ⟨tokOf, tokOf_injective⟩

/-- The launch's ghost element: the pipeline's, the exchange's, and no counter. -/
def u₀ : UU :=
  (initOf (Pipeline.cells cfgs cellOf_inj) (Pipeline.launchToks cfgs cellOf_inj), (initOf xCells xToks, (1 : Counters)))

omit [FloatOps F] in
/-- The launch's element, taken apart. -/
theorem ownU_parts (a : UR sig nD τ) (b : UB) :
    (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of a device's own cells. -/
def toks (c : Dev nD) : sProp 𝕄 :=
  iprop(dutyTok ER (kcell (c, 0)) 0 0 ∗ dutyTok ER (kcell (c, 0)) 0 1 ∗ dutyTok ER (kcell (c, 0)) 0 2
    ∗ dutyTok ER (kcell (c, 1)) 0 0 ∗ dutyTok ER (kcell (c, 2)) 0 0 ∗ dutyTok ER (kcell (c, 3)) 0 0
    ∗ dutyTok ER (kcell (c, 4)) 0 0 ∗ dutyTok ER (kcell (c, 5)) 0 0 ∗ dutyTok ER (kcell (c, 6)) 0 0)

/-- A device's share of the launch element. -/
def G (c : Dev nD) : sProp 𝕄 :=
  iprop((bigSep Finset.univ fun k : Fin 7 => roundState ER (rd PK) (kcell (c, k)) 0)
    ∗ (bigSep Finset.univ fun k : Fin 7 => iprop(atPos ER (kcell (c, k)) 0 ∅ 0 ∗ reached ER (kcell (c, k)) 0)) ∗ toks c)

/-- What every device's body gets of it once all cells are set up. -/
def G' (c : Dev nD) : sProp 𝕄 := iprop((∃ K, ghost PK K c) ∗ loads0 c)

omit [FloatOps F] in
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The exchange's element gives every device its share. -/
theorem fund_exchange : BI.own (ER (initOf xCells xToks)) ⊢ (|==> bigSep Finset.univ (G PK) : sProp 𝕄) := by
  have hX (Φ : GSem nD τ sig → sProp 𝕄) :
      bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (rd PK) xCells xToks) $$ HX with ⟨Hst, Hr, Hat, Htok⟩
  imodintro
  ihave Hst := (Entails.of_eq (hX fun g => roundState ER (rd PK) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq (c : Dev nD) :
    (Pipeline.ownSems0 (Ix := Unit) (Name := ℕ) (U := UU) (Lvl := ℕ) (Val := Elt F) (τ := τ) osem c : sProp 𝕄)
      = iprop(semVal ((c : Thread nD τ), .dma (loadS 0)) 0 ∗ semVal ((c : Thread nD τ), .dma (loadS 1)) 0
        ∗ semVal ((c : Thread nD τ), .dma (loadS 2)) 0 ∗ semVal ((c : Thread nD τ), .dma (loadS 3)) 0
        ∗ semVal ((c : Thread nD τ), .dma (loadS 4)) 0 ∗ semVal ((c : Thread nD τ), .dma (loadS 5)) 0
        ∗ semVal ((c : Thread nD τ), .dma (loadS 6)) 0
        ∗ semVal (kcell (c, 1)) 0 ∗ semVal (kcell (c, 2)) 0 ∗ semVal (kcell (c, 3)) 0
        ∗ semVal (kcell (c, 4)) 0 ∗ semVal (kcell (c, 5)) 0 ∗ semVal (kcell (c, 6)) 0) := by
  rw [Pipeline.ownSems0_eq_of_list c osem [0, 1, 2, 3, 4, 5, 6, 7, 8, 9, 10, 11, 12] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- A device's semaphores: the exchange's seven, and those of its local copies. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ loads0 c) : sProp 𝕄) := by
  rw [ownSems0_eq, unscopedSems0_eq, bigSep_fin7]
  unfold loads0
  iintro ⟨⟨L0, L1, L2, L3, L4, L5, L6, S0, S1, S2, R0, R1, R2⟩, HB⟩
  isplitl [S0 S1 S2 R0 R1 R2 HB]
  · isplitl [HB]; · iexact HB
    isplitl [S0]; · iexact S0
    isplitl [S1]; · iexact S1
    isplitl [S2]; · iexact S2
    isplitl [R0]; · iexact R0
    isplitl [R1] <;> iassumption
  isplitl [L0]; · iexact L0
  isplitl [L1]; · iexact L1
  isplitl [L2]; · iexact L2
  isplitl [L3]; · iexact L3
  isplitl [L4]; · iexact L4
  isplitl [L5] <;> iassumption

omit [FloatOps F] in
/-- One device's cells, their invariants allocated. -/
theorem core_alloc (c : Dev nD) :
    iprop(Pipeline.ownSems0 (Ix := Unit) (Name := ℕ) (U := UU) (Lvl := ℕ) (Val := Elt F) (τ := τ) osem c ∗ unscopedSems0 c ∗ G PK c)
      ⊢ |={Set.univ}=> iprop((bigSep Finset.univ fun k => iprop(∃ κ : ℕ, cellInv ER (rd PK) κ (kcell (c, k))))
          ∗ (bigSep Finset.univ fun k => iprop(atPos ER (kcell (c, k)) 0 ∅ 0 ∗ reached ER (kcell (c, k)) 0)) ∗ toks c ∗ loads0 c) := by
  unfold G
  iintro ⟨Hos, Hus, Hst, Hat, Htok⟩
  ihave ⟨Hv, Hl⟩ := (sems_split (F := F) c) $$ [Hos Hus]
  · isplitl [Hos] <;> iassumption
  imod (show iprop((bigSep Finset.univ fun k : Fin 7 => semVal (kcell (c, k)) 0) ∗ bigSep Finset.univ fun k : Fin 7 => roundState ER (rd PK) (kcell (c, k)) 0)
      ⊢ (|={Set.univ}=> bigSep Finset.univ fun k => iprop(∃ κ : ℕ, cellInv ER (rd PK) κ (kcell (c, k))) : sProp 𝕄) from by
        rw [← bigSep_sep']
        exact (bigSep_mono fun k _ => (Rounds.body_intro ER (rd PK) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- Every cell's invariant and first-round mark, all devices together. -/
def records (K : Dev nD × Fin 7 → ℕ) : sProp 𝕄 :=
  iprop((bigSep Finset.univ fun ck : Dev nD × Fin 7 => cellInv ER (rd PK) (K ck) (kcell ck))
    ∗ bigSep Finset.univ fun ck : Dev nD × Fin 7 => reached ER (kcell ck) 0)

instance records_persistent (K : Dev nD × Fin 7 → ℕ) : BI.Persistent (records PK K) := by unfold records; infer_instance

omit [FloatOps F] in
theorem inv_at (K : Dev nD × Fin 7 → ℕ) (ck : Dev nD × Fin 7) :
    (bigSep Finset.univ fun ck : Dev nD × Fin 7 => (cellInv ER (rd PK) (K ck) (kcell ck) : sProp 𝕄)) ⊢ cellInv ER (rd PK) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

omit [FloatOps F] in
/-- A device's ghost state out of the records, its positions and the tokens it pays with. -/
theorem ghost_intro (K : Dev nD × Fin 7 → ℕ) (c : Dev nD) :
    iprop(records PK K ∗ ((atCells c ∗ payToks c) ∗ loads0 c)) ⊢ G' PK c := by
  unfold records G' ghost invs marks
  iintro ⟨⟨#HI, #HR⟩, ⟨Hat, Htok⟩, Hl⟩
  isplitr [Hl]
  · iexists K
    isplitr
    · isplitr; · iapply (inv_at PK K (c, 0)); iexact HI
      isplitr; · iapply (inv_at PK K (c, 1)); iexact HI
      isplitr; · iapply (inv_at PK K (c, 2)); iexact HI
      isplitr; · iapply (inv_at PK K (c, 3)); iexact HI
      isplitr; · iapply (inv_at PK K (c, 4)); iexact HI
      isplitr; · iapply (inv_at PK K (c, 5)); iexact HI
      isplitr; · iapply (inv_at PK K (c, 6)); iexact HI
      isplitr; · iapply (inv_at PK K (pe 0 c, 0)); iexact HI
      isplitr; · iapply (inv_at PK K (pe 1 c, 0)); iexact HI
      isplitr; · iapply (inv_at PK K (pe 2 c, 0)); iexact HI
      isplitr; · iapply (inv_at PK K (pe 0 c, 4)); iexact HI
      isplitr; · iapply (inv_at PK K (pe 1 c, 5)); iexact HI
      iapply (inv_at PK K (pe 2 c, 6)); iexact HI
    isplitr
    · isplitr; · iapply (reached_at (F := F) (pe 0 c, 0)); iexact HR
      isplitr; · iapply (reached_at (F := F) (pe 1 c, 0)); iexact HR
      isplitr; · iapply (reached_at (F := F) (pe 2 c, 0)); iexact HR
      isplitr; · iapply (reached_at (F := F) (c, 1)); iexact HR
      isplitr; · iapply (reached_at (F := F) (c, 2)); iexact HR
      isplitr; · iapply (reached_at (F := F) (c, 3)); iexact HR
      isplitr; · iapply (reached_at (F := F) (c, 4)); iexact HR
      isplitr; · iapply (reached_at (F := F) (c, 5)); iexact HR
      iapply (reached_at (F := F) (c, 6)); iexact HR
    isplitl [Hat] <;> iassumption
  iexact Hl

omit [FloatOps F] in
/-- The tokens dealt around: each peer's barrier and arrival tokens to the device that pays them. -/
theorem toks_around : (bigSep Finset.univ fun c : Dev nD => (toks c : sProp 𝕄)) ⊢ bigSep Finset.univ fun c : Dev nD => payToks c := by
  unfold toks payToks
  simp only [bigSep_sep']
  rw [bigSep_univ_equiv (around 0) (fun c : Dev nD => (dutyTok ER (kcell (c, 0)) 0 0 : sProp 𝕄)),
    bigSep_univ_equiv (around 1) (fun c : Dev nD => (dutyTok ER (kcell (c, 0)) 0 1 : sProp 𝕄)),
    bigSep_univ_equiv (around 2) (fun c : Dev nD => (dutyTok ER (kcell (c, 0)) 0 2 : sProp 𝕄)),
    bigSep_univ_equiv (around 0) (fun c : Dev nD => (dutyTok ER (kcell (c, 4)) 0 0 : sProp 𝕄)),
    bigSep_univ_equiv (around 1) (fun c : Dev nD => (dutyTok ER (kcell (c, 5)) 0 0 : sProp 𝕄)),
    bigSep_univ_equiv (around 2) (fun c : Dev nD => (dutyTok ER (kcell (c, 6)) 0 0 : sProp 𝕄))]
  exact BI.Entails.refl _

omit [FloatOps F] in
/-- A persistent fact serves every member of a separating conjunction. -/
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd PK) κ (kcell (c, k))))
          ∗ (bigSep Finset.univ fun k => iprop(atPos ER (kcell (c, k)) 0 ∅ 0 ∗ reached ER (kcell (c, k)) 0)) ∗ toks c ∗ loads0 c) : sProp 𝕄)
      ⊢ bigSep Finset.univ (G' PK) := by
  rw [bigSep_sep', bigSep_sep', bigSep_sep', ← bigSep_univ_prod (fun ck : Dev nD × Fin 7 => iprop(∃ κ : ℕ, cellInv ER (rd PK) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hl⟩
  ihave HK := (BI.bigSep_exists_pi Finset.univ (fun (ck : Dev nD × Fin 7) (κ : ℕ) => (cellInv ER (rd PK) κ (kcell ck) : sProp 𝕄))) $$ HI
  icases HK with ⟨%K, #HI⟩
  ihave Htk := (toks_around (F := F)) $$ Htok
  iapply (bigSep_under (R := records PK K) fun c _ => ghost_intro PK K c)
  isplitr
  · unfold records; isplitl; · iexact HI
    iexact HR
  · rw [bigSep_sep', bigSep_sep']
    isplitl [Hat Htk]
    · isplitl [Hat]
      · iapply (Entails.of_eq (bigSep_congr (s := Finset.univ) fun (c : Dev nD) _ => show (bigSep Finset.univ fun k : Fin 7 => (atPos ER (kcell (c, k)) 0 ∅ 0 : sProp 𝕄)) = atCells c by
          unfold atCells; rw [bigSep_fin7]))
        iexact Hat
      · iexact Htk
    · iexact Hl

omit [FloatOps F] in
/-- All devices' semaphores and shares at once, made into what every body starts from. -/
theorem glob : (bigSep Finset.univ fun c => iprop(Pipeline.ownSems0 (Ix := Unit) (Name := ℕ) (U := UU) (Lvl := ℕ) (Val := Elt F) (τ := τ) osem c ∗ unscopedSems0 c ∗ G PK c) : sProp 𝕄)
    ⊢ |={Set.univ}=> bigSep Finset.univ (G' PK) :=
  ((bigSep_mono fun c _ => core_alloc PK c).trans (bigSep_fupd _ _)).trans (BI.fupd_mono (regroup PK))

end Exchange

/-! ## The launch's credit -/

/-- What a debt at one cell amounts to at another. -/
theorem tally_kcell (d c : Dev nD) (k' k : Fin 7) (n : ℕ) :
    (tallyAt (kcell (d, k')) () n : CellTallies nD τ sig Unit) (kcell (c, k)) () = if d = c ∧ k' = k then n else 0 := by
  rw [tallyAt_apply]
  by_cases h : d = c ∧ k' = k
  · obtain ⟨rfl, rfl⟩ := h
    rw [if_pos ⟨rfl, rfl⟩, if_pos ⟨rfl, rfl⟩]
  · rw [if_neg h, if_neg fun h' => h (by have := Prod.mk.inj (kcell_injective h'.1); exact ⟨this.1.symm, this.2.symm⟩)]

/-- A debt every device has in direction `j`, added up at one cell. -/
theorem sum_tally (j : Fin 3) (c : Dev nD) (k' k : Fin 7) (n : ℕ) :
    ∑ d : Dev nD, (tallyAt (kcell (pe j d, k')) () n : CellTallies nD τ sig Unit) (kcell (c, k)) () = if k' = k then n else 0 := by
  rw [Finset.sum_congr rfl fun d _ => tally_kcell (pe j d) c k' k n]
  rw [Fintype.sum_equiv (around j) (fun d => if pe j d = c ∧ k' = k then n else 0) (fun e => if e = c ∧ k' = k then n else 0) fun d => rfl]
  by_cases h : k' = k
  · simp only [h, and_true, if_true]
    rw [Finset.sum_ite_eq' Finset.univ c fun _ => n, if_pos (Finset.mem_univ _)]
  · simp only [h, and_false, if_false, Finset.sum_const_zero]

/-- What all devices owe one cell. -/
theorem sum_owed (c : Dev nD) (k : Fin 7) : ∑ d : Dev nD, O₀ d (kcell (c, k)) () =
    (if (6 : Fin 7) = k then N else 0) + (if (5 : Fin 7) = k then N else 0) + (if (4 : Fin 7) = k then N else 0)
      + (if (0 : Fin 7) = k then 1 else 0) + (if (0 : Fin 7) = k then 1 else 0) + (if (0 : Fin 7) = k then 1 else 0) := by
  unfold O₀ Osend
  simp only [Pi.add_apply, Finsupp.add_apply, Finset.sum_add_distrib, sum_tally]

/-- What all devices owe one cell at launch is the cell's credit. -/
theorem launch_cell (c : Dev nD) (k : Fin 7) (n : ℕ) (h : ∑ d : Dev nD, O₀ d (kcell (c, k)) () = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

omit [FloatOps F] in
/-- The launch's credit covers what a device waits for. -/
theorem creds (c : Dev nD) : (Pipeline.launchCred O₀ c : sProp 𝕄) ⊢ credits c := by
  unfold Pipeline.launchCred credits
  refine (BI.bigSep_subset (t := ({csem 0, csem 4, csem 5, csem 6} : Finset (SemLoc sig))) (Finset.subset_univ _)).trans ?_
  rw [bigSep_insert (by decide), bigSep_insert (by decide), bigSep_insert (by decide), bigSep_singleton,
    launch_cell c 0 3 ((sum_owed c 0).trans (by simp)), launch_cell c 4 N ((sum_owed c 4).trans (by simp)),
    launch_cell c 5 N ((sum_owed c 5).trans (by simp)), launch_cell c 6 N ((sum_owed c 6).trans (by simp))]
  exact BI.Entails.refl _

/-! ## The run -/

section Run
variable (m : (ℓ : Loc nD τ sig) → Buf (Elt F) ℓ) (ρ : Dev nD → PrngReg)

/-- The lengths as a device's scalar memory holds them. -/
def lensOf (c : Dev nD) : (cc0_stg0_0 : Ref sig .tc).ty.Contents (Elt F) :=
  (win0_0.blk (0 : Fin 1)).view.read (Elt F) (m ((c : Thread nD τ).loc main_arg4))

/-- The packed partials every device sends. -/
def PKof (c : Dev nD) : Pack F :=
  packOf c (m ((c : Thread nD τ).loc main_arg0)) (m ((c : Thread nD τ).loc main_arg1)) (m ((c : Thread nD τ).loc main_arg2))
    (m ((c : Thread nD τ).loc main_arg3)) (lensOf m c)

/-- A device's result. -/
def resultOf (c : Dev nD) : Buf (Elt F) ((c : Thread nD τ).loc main_v1) :=
  outOf (PKof m) c (m ((c : Thread nD τ).loc main_arg0)) (m ((c : Thread nD τ).loc main_arg1)) (m ((c : Thread nD τ).loc main_arg2))
    (m ((c : Thread nD τ).loc main_arg3)) (lensOf m c)

/-- A device's unscoped buffers at the end. -/
def atEnd (c : Dev nD) : (b : Ref sig .tc) → Buf (Elt F) ((c : Thread nD τ).loc b) :=
  Function.update (fun b => m ((c : Thread nD τ).loc b)) main_v1 (resultOf m c)

/-- Every unscoped buffer but the result ends as it began. -/
theorem atEnd_ne (c : Dev nD) (b : Ref sig .tc) (h : b ≠ main_v1) : atEnd m c b = m ((c : Thread nD τ).loc b) :=
  Function.update_of_ne h _ _
/-- The result buffer ends with the device's result. -/
theorem atEnd_result (c : Dev nD) : atEnd m c main_v1 = resultOf m c := Function.update_self _ _ _

attribute [local irreducible] atEnd in
/-- The unscoped buffers at the end, one by one. -/
theorem rest_atEnd (c : Dev nD) :
    (Pipeline.unscopedRest cfg0.spec c (atEnd m c) : sProp 𝕄)
      = iprop((((c : Thread nD τ).loc main_arg0) ↦{fullShare} m ((c : Thread nD τ).loc main_arg0))
        ∗ (((c : Thread nD τ).loc main_arg1) ↦{fullShare} m ((c : Thread nD τ).loc main_arg1))
        ∗ (((c : Thread nD τ).loc main_arg2) ↦{fullShare} m ((c : Thread nD τ).loc main_arg2))
        ∗ (((c : Thread nD τ).loc main_arg3) ↦{fullShare} m ((c : Thread nD τ).loc main_arg3))
        ∗ (((c : Thread nD τ).loc main_v1) ↦{fullShare} resultOf m c)) := by
  rw [unscopedRest0_eq, ← atEnd_ne m c main_arg0 (by decide), ← atEnd_ne m c main_arg1 (by decide),
    ← atEnd_ne m c main_arg2 (by decide), ← atEnd_ne m c main_arg3 (by decide), ← atEnd_result m c]

/-- What a device's body starts from. -/
def Φ₀ (c : Dev nD) : sProp 𝕄 :=
  iprop(((G' (PKof m) c ∗ credits c ∗ levAts L lv)
      ∗ Pipeline.unscopedRest cfg0.spec c (fun b => m ((c : Thread nD τ).loc b)))
    ∗ Pipeline.scopedRest cfg0.spec c)
/-- What it leaves. -/
def Φ₁ (c : Dev nD) : sProp 𝕄 :=
  iprop((unscopedSems0 c ∗ Pipeline.unscopedRest cfg0.spec c (atEnd m c)) ∗ Pipeline.ownSems0 osem c ∗ Pipeline.scopedRest cfg0.spec c)

/-- What the launch knows of a device: the arrays its window stages, what it holds before and after its body, and
    what it owes. -/
def dats (_ : Fin 1) (c : Dev nD) : Dat τ (Elt F) Unit ℕ UU ℕ cfg0 c where
  A w := m ((cfg0.win w).arr.view.loc (c : Thread nD τ))
  after w _ := match w with
    | ⟨0, _⟩ => lensOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A window's array is held whole. -/
theorem share_eq (c : Dev nD) (w : Fin cfg0.W) : (dats m 0 c).share w = fullShare := by unfold Dat.share; split <;> rfl

/-- The body finds the lengths in the staging buffer. -/
theorem fetched_lens (c : Dev nD) (d) : (dats m 0 c).before (0 : Fin 1) t0_0 d = lensOf m c := by
  unfold Dat.before; rw [if_pos (fetch0_0 t0_0)]; rfl

/-- What the body leaves, as the launch takes it back. -/
theorem body_exit (c : Dev nD) :
    bodyLeft c (m ((c : Thread nD τ).loc main_arg0)) (m ((c : Thread nD τ).loc main_arg1)) (m ((c : Thread nD τ).loc main_arg2))
        (m ((c : Thread nD τ).loc main_arg3)) (lensOf m c) (resultOf m c)
      ⊢ iprop(Φ₁ m c ∗ (∃ W, owes (c : Thread nD τ) 0 W) ∗ ((c : Thread nD τ).loc cc0_stg0_0 ↦{fullShare} lensOf m c)) := by
  unfold bodyLeft bufs loads0 Φ₁
  simp only [lp0, lp1, lp2]
  rw [rest_atEnd, scopedRest0_eq, ownSems0_eq, unscopedSems0_eq]
  iintro ⟨%W, %f0, %f1, %f2, %f3, %f4, %f5, %f6, %f7, %f8, HO, ⟨L0, L1, L2, L3, L4, L5, L6⟩, ⟨ZB, S0, S1, S2, R0, R1, R2⟩,
    HQ, HK, HV, HB, HR, HL, H0, H1, H2, H3, H4, H5, H6, H7, H8⟩
  isplitr [HO HL]
  · isplitl [ZB HQ HK HV HB HR]
    · isplitl [ZB]; · iexact ZB
      isplitl [HQ]; · iexact HQ
      isplitl [HK]; · iexact HK
      isplitl [HV]; · iexact HV
      isplitl [HB] <;> iassumption
    isplitl [L0 L1 L2 L3 L4 L5 L6 S0 S1 S2 R0 R1 R2]
    · isplitl [L0]; · iexact L0
      isplitl [L1]; · iexact L1
      isplitl [L2]; · iexact L2
      isplitl [L3]; · iexact L3
      isplitl [L4]; · iexact L4
      isplitl [L5]; · iexact L5
      isplitl [L6]; · iexact L6
      isplitl [S0]; · iexact S0
      isplitl [S1]; · iexact S1
      isplitl [S2]; · iexact S2
      isplitl [R0]; · iexact R0
      isplitl [R1] <;> iassumption
    isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    isplitl [H7]; · iexists f7; iexact H7
    iexists f8; iexact H8
  isplitl [HO]; · iexists W; iexact HO
  iexact HL

/-- The body's part of the launch: from `Φ₀` to `Φ₁`. -/
theorem body_step (c : Dev nD) (W : Waits sig Unit) :
    iprop(Φ₀ m c ∗ owes (c : Thread nD τ) (O₀ c) W ∗ ((c : Thread nD τ).loc cc0_stg0_0 ↦{fullShare} lensOf m c))
      ⊢ wp frame (wpE (defs₀ (F := F)) 𝒱₀ (c : Thread nD τ) none) Set.univ
          (cc0_body (Memref.whole main_arg0) (Memref.isWhole_whole _) (Memref.whole main_arg1) (Memref.isWhole_whole _) (Memref.whole main_arg2) (Memref.isWhole_whole _) (Memref.whole main_arg3) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11)
          (fun _ => iprop(Φ₁ m c ∗ (∃ W, owes (c : Thread nD τ) 0 W) ∗ ((c : Thread nD τ).loc cc0_stg0_0 ↦{fullShare} lensOf m c))) := by
  refine BI.Entails.trans ?_ (wp_mono _ _ _ fun _ => body_exit m c)
  show (_ : sProp 𝕄) ⊢ _
  unfold Φ₀ G'
  rw [unscopedRest0_eq, scopedRest0_eq]
  iintro ⟨⟨⟨⟨⟨⟨%K, Hg⟩, Hl⟩, Hcr, Hlev⟩, HQ, HK, HV, HB, HR⟩, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, HO, HL⟩
  iapply (body_run (PKof m) K c W (m ((c : Thread nD τ).loc main_arg0)) (m ((c : Thread nD τ).loc main_arg1)) (m ((c : Thread nD τ).loc main_arg2))
    (m ((c : Thread nD τ).loc main_arg3)) (lensOf m c) (m ((c : Thread nD τ).loc main_v1)) f0 f1 f2 f3 f4 f5 f6 f7 f8 rfl)
  unfold bufs
  rw [lp0, lp1, lp2]
  isplitl [Hg]; · iexact Hg
  isplitl [Hl]; · iexact Hl
  isplitl [Hcr]; · iexact Hcr
  isplitl [Hlev]; · iexact Hlev
  isplitl [HO]; · iexact HO
  isplitl [HQ]; · iexact HQ
  isplitl [HK]; · iexact HK
  isplitl [HV]; · iexact HV
  isplitl [HB]; · iexact HB
  isplitl [HR]; · iexact HR
  isplitl [HL]; · iexact HL
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The staging buffer of the lengths, at some contents equal to `X`. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0 ↦{fullShare} f))

/-- What the body leaves is what the launch asks for after it. -/
theorem body_post (c : Dev nD) :
    iprop(Φ₁ m c ∗ (∃ W, owes (c : Thread nD τ) 0 W) ∗ ((c : Thread nD τ).loc cc0_stg0_0 ↦{fullShare} lensOf m c))
      ⊢ iprop(Φ₁ m c ∗ (∃ W : Waits sig Unit, ⌜↑W ⊆ (dats m 0 c).bound () t0_0.succ⌝ ∗ owes (c : Thread nD τ) 0 W) ∗ stg c (lensOf m c)) := by
  iintro ⟨HΦ, ⟨%W, HO⟩, HL⟩
  isplitl [HΦ]; · iexact HΦ
  isplitl [HO]
  · iexists W
    isplitr; · ipureintro; exact fun _ _ => Or.inl trivial
    iexact HO
  iexists _; isplitr; · (ipureintro; rfl)
  iexact HL

/-- The launch's obligation of the body. -/
theorem body_obligation (c : Dev nD) : BodyObligation (dats m 0 c) (defs₀ (F := F)) 𝒱₀ () Set.univ := fun t => by
  rw [show t = t0_0 from fin_N0 t]
  rw [show ∀ Φ : Fin cfg0.W → sProp 𝕄, bigSep Finset.univ Φ = iprop(Φ (0 : Fin 1)) from bigSep_W0,
    show ∀ Φ : Fin cfg0.W → sProp 𝕄, bigSep Finset.univ Φ = iprop(Φ (0 : Fin 1)) from bigSep_W0]
  simp only [owns_whole_eq]
  show iprop(Φ₀ m c ∗ (dats m 0 c).owesAt () t0_0.castSucc ∗ ∃ d, stg c ((dats m 0 c).before (0 : Fin 1) t0_0 d))
    ⊢ wp frame (wpE (defs₀ (F := F)) 𝒱₀ (c : Thread nD τ) none) Set.univ
          (cc0_body (Memref.whole main_arg0) (Memref.isWhole_whole _) (Memref.whole main_arg1) (Memref.isWhole_whole _) (Memref.whole main_arg2) (Memref.isWhole_whole _) (Memref.whole main_arg3) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11)
          (fun _ => iprop(Φ₁ m c ∗ (dats m 0 c).owesAt () t0_0.succ ∗ stg c (lensOf m c)))
  unfold Dat.owesAt Pipeline.owesWithin
  rw [show (dats m 0 c).owed t0_0.castSucc = O₀ c from rfl, show (dats m 0 c).owed t0_0.succ = 0 from rfl]
  refine BI.Entails.trans ?_ (wp_mono _ _ _ fun _ => body_post m c)
  show (_ : sProp 𝕄) ⊢ _
  iintro ⟨HΦ, ⟨%W, %hW, HO⟩, ⟨%d, %g, %hg, HL⟩⟩
  rw [fetched_lens] at hg
  subst hg
  iapply (body_step m c W)
  isplitl [HΦ]; · iexact HΦ
  isplitl [HO] <;> iassumption

/-- What the launch gives a device is what its start asks for. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (PKof m) c)
      ⊢ |={Set.univ}=> iprop(((G' (PKof m) c ∗ credits c ∗ levAts L lv)
        ∗ Pipeline.unscopedRest cfg0.spec c (fun b => m ((c : Thread nD τ).loc b))) ∗ emp) := by
  rw [Pipeline.unscopedRestP_none]
  iintro ⟨HU, Hlev, Hcr, -, HG⟩
  ihave Hc := (creds (F := F) c) $$ Hcr
  imodintro
  isplitl
  · isplitr [HU]
    · isplitl [HG]; · iexact HG
      isplitl [Hc] <;> iassumption
    iexact HU
  · iempintro

/-- A device's start and its scoped buffers are what its body starts from. -/
theorem phi0_intro (c : Dev nD) :
    iprop(((G' (PKof m) c ∗ credits c ∗ levAts L lv) ∗ Pipeline.unscopedRest cfg0.spec c (fun b => m ((c : Thread nD τ).loc b)))
        ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

/-- What the body leaves gives back the device's semaphores and buffers. -/
theorem phi1_exit (c : Dev nD) :
    (dats m 0 c).Φ (Fin.last cfg0.N) ⊢ iprop((unscopedSems0 c ∗ Pipeline.unscopedRest cfg0.spec c (atEnd m c))
      ∗ Pipeline.ownSems0 osem c ∗ Pipeline.scopedRest cfg0.spec c) := by
  rw [show (dats m 0 c).Φ (Fin.last cfg0.N) = Φ₁ m c from rfl]
  unfold Φ₁
  exact BI.Entails.refl _

/-- The windows' semaphores may be waited on whatever the device owes. -/
theorem waits (c : Dev nD) : (levAts L lv : sProp 𝕄) ⊢ Pipeline.cellsWaits cfgs (dats m) () 0 c :=
  Pipeline.cellsWaits_intro cfgs (dats m) () 0 c fun w s t =>
    mayWait_other c _ (by fin_cases w <;> fin_cases s <;> decide) _ fun g u hg => by
      rcases t with ⟨_ | _, ht⟩
      · exact O₀_pos hg
      · exact absurd hg (Nat.lt_irrefl 0)

/-- The contents the program's arguments and result end with. -/
def Ends (r : PUnit × MemSt nD τ sig (Elt F)) : Prop :=
  ∀ c : Dev nD, r.2.mem ((c.tc : Thread nD τ).loc main_v1) = resultOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- The unscoped buffers no window stages. -/
abbrev restBufs : Finset (Ref sig .tc) :=
  (Finset.univ.filter fun b : Ref sig .tc => ¬ b.isScoped) \ Finset.univ.image (Pipeline.arrRef cfg0.spec)

set_option maxRecDepth 8000 in
/-- For any float values, from any memory with zero counters: every weakly fair execution of the program on the four
    devices terminates; every final state has each device's result at `resultOf`, its arguments unchanged, and every
    semaphore counter at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (PKof m)) (G' := G' (PKof m)) (u₀ := u₀)
    (hu₀ := by
      unfold u₀
      iintro Hu
      ihave ⟨HP, HX⟩ := (ownU_parts _ _) $$ Hu
      imod (fund_exchange (PKof m)) $$ HX with HG
      imodintro
      isplitl [HP] <;> iassumption)
    (hglob := glob (PKof m))
    (hA := fun _ _ => rfl) (hpf := fun _ k => k.elim0)
    (X := fun c => iprop((G' (PKof m) c ∗ credits c ∗ levAts L lv) ∗ Pipeline.unscopedRest cfg0.spec c (fun b => m ((c : Thread nD τ).loc b))))
    (Y := fun c => iprop(unscopedSems0 c ∗ Pipeline.unscopedRest cfg0.spec c (atEnd m c))) (Z := fun _ => iprop(emp))
    (hX := start_intro m ρ) (hin := phi0_intro m) (hout := phi1_exit m)
    (QY := fun c s => (∀ b ∈ restBufs, s.mem ((c.tc : Thread nD τ).loc b) = atEnd m c b)
      ∧ ∀ sm : SemLoc sig, sm.isScoped .tc = false → s.sem ((c.tc : Thread nD τ), sm) = 0)
    (hY := fun c s' => by
      iintro ⟨⟨Hs, Hu⟩, -, HSI⟩
      unfold Pipeline.unscopedRest
      ihave ⟨%hb, HSI⟩ := (pointsTo_read_all restBufs (fun b => (c.tc : Thread nD τ).loc b) (atEnd m c) s') $$ [Hu HSI]
      · isplitl [Hu] <;> iassumption
      imod (Pipeline.unscopedSems0_read (X := unscopedSems0 c) (c := c) fupd_intro s') $$ [Hs HSI] with ⟨%hs, HSI⟩
      · isplitl [Hs] <;> iassumption
      imodintro
      isplitr; · ipureintro; exact ⟨hb, hs⟩
      iexact HSI)
    (hQ := fun s h hs => ⟨fun c =>
        ⟨((h c).2.2.1 main_v1 (by decide)).trans (atEnd_result m c),
          ((h c).2.2.1 main_arg0 (by decide)).trans (atEnd_ne m c _ (by decide)),
          ((h c).2.2.1 main_arg1 (by decide)).trans (atEnd_ne m c _ (by decide)),
          ((h c).2.2.1 main_arg2 (by decide)).trans (atEnd_ne m c _ (by decide)),
          ((h c).2.2.1 main_arg3 (by decide)).trans (atEnd_ne m c _ (by decide)),
          ((h c).1 0).trans ((dats m 0 c).arrAt_in (0 : Fin 1) rfl _)⟩,
      sem_eq_zero hs fun c => (h c).2.2.2⟩)

end Run

end Cert.Attn

end
-- ==== Proof.Softmax.lean ====
/-
Arithmetic of the extended reals alone. A query attends to a table of `S` slots; slot `s`, where it
is in use, names a page `pg s` of `K` tokens. One side sums over slots. The other counts how many
slots name each page, cuts the pages in two parts, sums over the tokens of each part under that
part's own reference exponent, and then brings the two parts to one exponent and adds them.
`merge_eq` says that both give the same weighted mean. Only the values may be infinite; the scores
are real.
-/
module

public import Idealize.ShloMosaic.PureOps.Ideal.Laws

@[expose] public section

noncomputable section

namespace Cert.Attn

open Idealize.ShloMosaic

/-- A sum of nonnegative reals distributes over an extended real on its right. -/
theorem sum_coe_mul {ι : Type} (s : Finset ι) (f : ι → ℝ) (hf : ∀ i, 0 ≤ f i) (v : EReal) :
    ((∑ i ∈ s, f i : ℝ) : EReal) * v = ∑ i ∈ s, ((f i : ℝ) : EReal) * v := by
  classical
  induction s using Finset.induction_on with
  | empty => simp
  | insert a s ha ih =>
    rw [Finset.sum_insert ha, Finset.sum_insert ha, EReal.coe_add,
      EReal.right_distrib_of_nonneg (by exact_mod_cast hf a)
        (by exact_mod_cast Finset.sum_nonneg fun i _ => hf i), ih]

/-- A nonnegative real distributes over a sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The real numbers embed in the extended reals with their sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

section
variable {S P K T : Type} [Fintype S] [Fintype P] [Fintype K] [Fintype T] [DecidableEq P]
variable (U : S → Prop) [DecidablePred U] (pg : S → P)

/-- How many slots in use name the page. -/
def hits (p : P) : ℝ := ∑ s, if U s ∧ pg s = p then (1 : ℝ) else 0

/-- A count is not negative. -/
theorem hits_nonneg (p : P) : 0 ≤ hits U pg p :=
  Finset.sum_nonneg fun s _ => by split <;> norm_num

/-- Summing over pages, each as often as it is named, is summing over the slots in use. -/
theorem sum_hits (E : P → K → ℝ) (hE : ∀ p k, 0 ≤ E p k) (v : P → K → EReal) :
    ∑ p, ∑ k, ((hits U pg p * E p k : ℝ) : EReal) * v p k
      = ∑ k, ∑ s, ((if U s then E (pg s) k else 0 : ℝ) : EReal) * v (pg s) k := by
  rw [Finset.sum_comm]
  refine Finset.sum_congr rfl fun k _ => ?_
  have h : ∀ p, ((hits U pg p * E p k : ℝ) : EReal) * v p k
      = ∑ s, ((if U s ∧ pg s = p then E p k else 0 : ℝ) : EReal) * v p k := fun p => by
    rw [hits, Finset.sum_mul, sum_coe_mul _ _ fun s => by
      split
      · simpa using hE p k
      · simp]
    refine Finset.sum_congr rfl fun s _ => ?_
    split <;> simp
  rw [Finset.sum_congr rfl fun p _ => h p, Finset.sum_comm]
  refine Finset.sum_congr rfl fun s _ => ?_
  rw [Finset.sum_eq_single (pg s)]
  · simp
  · intro p _ hp
    simp [Ne.symm hp]
  · simp

/-- Changing the reference exponent of one part from `m` to `g`. -/
theorem shift (w x : T → ℝ) (hw : ∀ t, 0 ≤ w t) (m g : ℝ) (v : T → EReal) :
    (∑ t, ((w t * Real.exp (x t - m) : ℝ) : EReal) * v t) * ((Real.exp (m - g) : ℝ) : EReal)
      = ∑ t, ((w t * Real.exp (x t - g) : ℝ) : EReal) * v t := by
  rw [mul_comm, coe_mul_sum _ _ (Real.exp_pos _).le]
  refine Finset.sum_congr rfl fun t _ => ?_
  rw [← mul_assoc, ← EReal.coe_mul]
  congr 2
  rw [show x t - g = (m - g) + (x t - m) by ring, Real.exp_add]
  ring

/-- The weighted sum of two parts under the common exponent `g` is the weighted sum over the slots
under the exponent `M`, times `exp (M - g)`. -/
theorem parts (σ : P → K → ℝ) (v : P → K → EReal) (pA pB : T → P) (tk : T → K)
    (hsplit : ∀ f : P → K → EReal, ∑ t, f (pA t) (tk t) + ∑ t, f (pB t) (tk t) = ∑ p, ∑ k, f p k)
    (xA xB : T → ℝ)
    (hA : ∀ t, hits U pg (pA t) ≠ 0 → xA t = σ (pA t) (tk t))
    (hB : ∀ t, hits U pg (pB t) ≠ 0 → xB t = σ (pB t) (tk t))
    (mA mB g M : ℝ) :
    (∑ t, ((hits U pg (pA t) * Real.exp (xA t - mA) : ℝ) : EReal) * v (pA t) (tk t))
        * ((Real.exp (mA - g) : ℝ) : EReal)
      + (∑ t, ((hits U pg (pB t) * Real.exp (xB t - mB) : ℝ) : EReal) * v (pB t) (tk t))
        * ((Real.exp (mB - g) : ℝ) : EReal)
      = ((Real.exp (M - g) : ℝ) : EReal)
        * ∑ k, ∑ s, ((if U s then Real.exp (σ (pg s) k - M) else 0 : ℝ) : EReal) * v (pg s) k := by
  have key : ∀ (q : T → P) (x : T → ℝ), (∀ t, hits U pg (q t) ≠ 0 → x t = σ (q t) (tk t)) →
      ∀ t, hits U pg (q t) * Real.exp (x t - g)
        = hits U pg (q t) * (Real.exp (M - g) * Real.exp (σ (q t) (tk t) - M)) := by
    intro q x hx t
    by_cases h : hits U pg (q t) = 0
    · simp [h]
    · rw [hx t h, ← Real.exp_add]
      congr 2
      ring
  rw [shift _ _ (fun t => hits_nonneg U pg _), shift _ _ (fun t => hits_nonneg U pg _)]
  simp only [key pA xA hA, key pB xB hB]
  rw [hsplit fun p k =>
      ((hits U pg p * (Real.exp (M - g) * Real.exp (σ p k - M)) : ℝ) : EReal) * v p k,
    sum_hits U pg (fun p k => Real.exp (M - g) * Real.exp (σ p k - M)) (fun p k => by positivity) v,
    coe_mul_sum _ _ (Real.exp_pos _).le]
  refine Finset.sum_congr rfl fun k _ => ?_
  rw [coe_mul_sum _ _ (Real.exp_pos _).le]
  refine Finset.sum_congr rfl fun s _ => ?_
  rw [← mul_assoc, ← EReal.coe_mul]
  congr 2
  split <;> simp

/-- The two parts, merged, give the attention over the slots: the weighted values over the sum of
the weights, whichever reference exponents `mA`, `mB`, `g` and `M` are taken. -/
theorem merge_eq (σ : P → K → ℝ) (v : P → K → EReal) (pA pB : T → P) (tk : T → K)
    (hsplit : ∀ f : P → K → EReal, ∑ t, f (pA t) (tk t) + ∑ t, f (pB t) (tk t) = ∑ p, ∑ k, f p k)
    (xA xB : T → ℝ)
    (hA : ∀ t, hits U pg (pA t) ≠ 0 → xA t = σ (pA t) (tk t))
    (hB : ∀ t, hits U pg (pB t) ≠ 0 → xB t = σ (pB t) (tk t))
    (mA mB g M : ℝ) (s₀ : S) (hs₀ : U s₀) (k₀ : K) :
    Ideal.div
        ((∑ t, ((hits U pg (pA t) * Real.exp (xA t - mA) : ℝ) : EReal) * v (pA t) (tk t))
            * ((Real.exp (mA - g) : ℝ) : EReal)
          + (∑ t, ((hits U pg (pB t) * Real.exp (xB t - mB) : ℝ) : EReal) * v (pB t) (tk t))
            * ((Real.exp (mB - g) : ℝ) : EReal))
        ((∑ t, ((hits U pg (pA t) * Real.exp (xA t - mA) : ℝ) : EReal))
            * ((Real.exp (mA - g) : ℝ) : EReal)
          + (∑ t, ((hits U pg (pB t) * Real.exp (xB t - mB) : ℝ) : EReal))
            * ((Real.exp (mB - g) : ℝ) : EReal))
      = ∑ k, ∑ s, Ideal.div ((if U s then Real.exp (σ (pg s) k - M) else 0 : ℝ) : EReal)
          (∑ k, ∑ s, ((if U s then Real.exp (σ (pg s) k - M) else 0 : ℝ) : EReal))
          * v (pg s) k := by
  have hn := parts U pg σ v pA pB tk hsplit xA xB hA hB mA mB g M
  have hd := parts U pg σ (fun _ _ => 1) pA pB tk hsplit xA xB hA hB mA mB g M
  simp only [mul_one] at hd
  rw [hn, hd]
  have hW : ∀ s k, 0 ≤ (if U s then Real.exp (σ (pg s) k - M) else 0 : ℝ) := fun s k => by
    split <;> positivity
  have hZ : 0 < ∑ k, ∑ s, (if U s then Real.exp (σ (pg s) k - M) else 0 : ℝ) :=
    Finset.sum_pos' (fun k _ => Finset.sum_nonneg fun s _ => hW s k)
      ⟨k₀, Finset.mem_univ _, Finset.sum_pos' (fun s _ => hW s k₀)
        ⟨s₀, Finset.mem_univ _, by rw [if_pos hs₀]; exact Real.exp_pos _⟩⟩
  have hZc : (∑ k, ∑ s, ((if U s then Real.exp (σ (pg s) k - M) else 0 : ℝ) : EReal))
      = ((∑ k, ∑ s, (if U s then Real.exp (σ (pg s) k - M) else 0 : ℝ) : ℝ) : EReal) := by
    rw [coe_sum]
    exact Finset.sum_congr rfl fun k _ => (coe_sum _ _).symm
  rw [hZc]
  generalize (∑ k, ∑ s, (if U s then Real.exp (σ (pg s) k - M) else 0 : ℝ)) = Z at hZ
  have hE := Real.exp_pos (M - g)
  rw [← EReal.coe_mul, Ideal.div_coe (by positivity), mul_comm, ← mul_assoc, ← EReal.coe_mul,
    show 1 / (Real.exp (M - g) * Z) * Real.exp (M - g) = 1 / Z by field_simp,
    coe_mul_sum _ _ (by positivity)]
  refine Finset.sum_congr rfl fun k _ => ?_
  rw [coe_mul_sum _ _ (by positivity)]
  refine Finset.sum_congr rfl fun s _ => ?_
  rw [Ideal.div_coe hZ.ne', ← mul_assoc, mul_comm ((1 / Z : ℝ) : EReal)]

end

end Cert.Attn
end
-- ==== Proof.Local.lean ====
/-
What one device computes, read at an index.
-/
module

public import proofs.«01_k».proof.Proof.Spec
public import proofs.«01_k».proof.Proof.Softmax
public import Idealize.ShloMosaic.Lib.Pointwise
public import Idealize.ShloMosaic.Lib.DynamicIndex
public import Idealize.ShloMosaic.Lib.Pipeline.Value

@[expose] public section

noncomputable section

namespace Cert.Attn

open Cert.KernelIdeal Cert.KernelIdeal.Gen

open Idealize.ShloMosaic

section Any
variable {F : FTy → Type} [FloatOps F]

/-- A request's number of pages is an element of the lengths. -/
theorem lensAt_apply (L : IVec S8 32) (b : ℕ) (hb : b < 8) : lensAt L b hb = L (ix1 ⟨b, hb⟩) := by
  refine congrArg L ?_
  funext a
  fin_cases a
  rfl

/-- Where an index of a unit-stride rectangle lies along an axis. -/
theorem emb_val {s : Shape} (off size : Fin s.rank → ℕ) (hb : ∀ a, off a + size a ≤ s.size a)
    (x : (Rect.unit off size hb).shape.Idx) (a : Fin s.rank) :
    ((Rect.unit off size hb).emb x a).val = off a + (x a).val := by
  show off a + 1 * (x a).val = _
  rw [one_mul]

/-- Where an index read through a unit-stride rectangle lies along an axis. -/
theorem idx_val {s : Shape} (off size : Fin s.rank → ℕ) (hb : ∀ a, off a + size a ≤ s.size a)
    (x : (Rect.unit off size hb).shape.Idx) (a : Fin s.rank) :
    ((Rect.unit off size hb).idx x a).val = off a + (x a).val := emb_val off size hb x a

/-- A device's head `h` is one of the eight heads. -/
theorem head_lt (c : Dev nD) (h : ℕ) (hh : h < 4) : 4 * (c.val / 2) + h < 8 := by
  have : c.val < 4 := c.isLt
  omega

/-- A head and page of a device's block, in its scratch. -/
theorem pages_apply (c : Dev nD) (X : Vec F S64x16x8x64 .f32) (p : Fin 64) (k : Fin 16) (h : Fin 4) (d : Fin 64) :
    View.canon (pagesOf c X) (ix4 p k h d) = X (ix4 p k ⟨4 * (c.val / 2) + h.val, head_lt c _ h.isLt⟩ d) := by
  refine (View.canon_apply_of_pieces
    (fun i : S64x16x4x64.Idx => X (ix4 (i 0) (i 1) (⟨4 * (c.val / 2) + (i 2).val, head_lt c _ (i 2).isLt⟩ : Fin 8) (i 3)))
    (pagesOf c X) ?_ _ ?_).trans rfl
  · intro q hq x
    simp only [pagesOf, List.mem_cons, List.not_mem_nil, or_false] at hq
    obtain rfl | rfl := hq
    · refine congrArg X ?_
      funext a
      apply Fin.ext
      fin_cases a <;> simp [emb_val, idx_val, k0_off2_eq]
    · refine congrArg X ?_
      funext a
      apply Fin.ext
      fin_cases a <;> simp [emb_val, idx_val, k0_off1_eq]
  · have hp := p.isLt
    have hk := k.isLt
    have hh := h.isLt
    have hd := d.isLt
    by_cases hp : p.val < 32
    · refine ⟨_, List.mem_cons_of_mem _ List.mem_cons_self,
        (Rect.mem_set_unit (inb := inb_pages 0 (by decide))).mpr fun a => ?_⟩
      fin_cases a <;> simp <;> omega
    · refine ⟨_, List.mem_cons_self, (Rect.mem_set_unit (inb := inb_pages 32 (by decide))).mpr fun a => ?_⟩
      fin_cases a <;> simp <;> omega

end Any

/-- Half of a head, laid flat, sixteen positions to a page. -/
theorem half_apply (X : Vec Ideal S64x16x4x64 .f32) (p h : ℕ) (hp : p + 32 ≤ 64) (hh : h < 4) (t : Fin 512) (d : Fin 64) :
    (truncf (F := Ideal) .bf16 (shapeCast S512x64 (shapeCast S32x16x64
      (fun j => X ((Rect.unit (s := S64x16x4x64) ![p, 0, h, 0] S32x16x1x64.size (inb_half p h hp hh)).idx j)
        : Vec Ideal S32x16x1x64 .f32)
      shapeCasts_S32x16x1x64_S32x16x64) shapeCasts_S32x16x64_S512x64) bitsLt_bf16_f32 (ix2 t d) : EReal)
      = X (ix4 ⟨p + t.val / 16, by omega⟩ ⟨t.val % 16, by omega⟩ ⟨h, hh⟩ d) := by
  pointwise

/-- A whole head, laid flat, sixteen positions to a page. -/
theorem whole_apply (X : Vec Ideal S64x16x4x64 .f32) (h : ℕ) (hh : h < 4) (t : Fin 1024) (d : Fin 64) :
    (truncf (F := Ideal) .bf16 (shapeCast S1024x64 (shapeCast S64x16x64
      (fun j => X ((Rect.unit (s := S64x16x4x64) ![0, 0, h, 0] S64x16x1x64.size (inb_all h hh)).idx j)
        : Vec Ideal S64x16x1x64 .f32)
      shapeCasts_S64x16x1x64_S64x16x64) shapeCasts_S64x16x64_S1024x64) bitsLt_bf16_f32 (ix2 t d) : EReal)
      = X (ix4 ⟨t.val / 16, by omega⟩ ⟨t.val % 16, by omega⟩ ⟨h, hh⟩ d) := by
  pointwise

/-- A head's keys, from page `p` on. -/
theorem keys_apply (c : Dev nD) (K : Vec Ideal S64x16x8x64 .f32) (p h : ℕ) (hp : p + 32 ≤ 64) (hh : h < 4) (t : Fin 512)
    (d : Fin 64) :
    keys c K p h hp hh (ix2 t d)
      = K (ix4 ⟨p + t.val / 16, by omega⟩ ⟨t.val % 16, by omega⟩ ⟨4 * (c.val / 2) + h, head_lt c _ hh⟩ d) := by
  unfold keys
  rw [View.readCov_eq_canon']
  exact (half_apply _ p h hp hh t d).trans (pages_apply c K _ _ _ _)

/-- A head's values. -/
theorem values_apply (c : Dev nD) (V : Vec Ideal S64x16x8x64 .f32) (h : ℕ) (hh : h < 4) (t : Fin 1024)
    (d : Fin 64) :
    values c V h hh (ix2 t d)
      = V (ix4 ⟨t.val / 16, by omega⟩ ⟨t.val % 16, by omega⟩ ⟨4 * (c.val / 2) + h, head_lt c _ hh⟩ d) := by
  unfold values
  rw [View.readCov_eq_canon']
  exact (whole_apply _ h hh t d).trans (pages_apply c V _ _ _ _)

/-- How often the chip finds one 32-bit word equal to another: once or never. -/
theorem sitofp_eq (x y : BitVec 32) :
    FloatOps.sitofp (F := Ideal) .f32 (BitVec.setWidth 32 (IntOp.cmpi .eq x y))
      = (((if x = y then 1 else 0 : ℝ)) : EReal) := by
  show (((BitVec.setWidth 32 (IntOp.cmpi .eq x y)).toInt : ℝ) : EReal) = _
  by_cases h : x = y
  · simp [IntOp.cmpi, h]
  · have : (x == y) = false := by simpa using h
    simp [IntOp.cmpi, h, this]

/-- Whether a request uses its `s`-th page. -/
def inUse (L : IVec S8 32) (b : Fin 8) (s : Fin 64) : Prop := (s.val : ℤ) < (L (ix1 b)).toInt

instance (L : IVec S8 32) (b : Fin 8) : DecidablePred (inUse L b) := fun _ => Int.decLt _ _

/-- A request's `s`-th page: its number in the table, read from the end if negative and held within the pages. -/
def pageAt (B : IVec S8x64 32) (b : Fin 8) (s : Fin 64) : Fin 128 :=
  ⟨min (Scalar.select (IntOp.cmpi .slt (B (ix2 b s)) 0#32) (IntOp.addi (B (ix2 b s)) 128#32) (B (ix2 b s))).toInt.toNat
    (128 - 1), by omega⟩

/-- A number within the pages is the page. -/
theorem pageAt_val (B : IVec S8x64 32) (b : Fin 8) (s : Fin 64) (h0 : 0 ≤ (B (ix2 b s)).toInt)
    (h1 : (B (ix2 b s)).toInt < 128) : (pageAt B b s).val = (B (ix2 b s)).toInt.toNat := by
  have hc : IntOp.cmpi .slt (B (ix2 b s)) 0#32 = 0#1 := by
    have : (B (ix2 b s)).slt 0#32 = false := by
      rw [Bool.eq_false_iff, Ne, BitVec.slt_iff_toInt_lt]
      exact not_lt.mpr h0
    simp [IntOp.cmpi, this]
  unfold pageAt
  simp only [hc]
  show min (B (ix2 b s)).toInt.toNat _ = _
  omega

/-- A device's `p`-th page, among all pages. -/
def pageOf (c : Dev nD) (p : Fin 64) : Fin 128 :=
  ⟨64 * (c.val % 2) + p.val, by have := p.isLt; omega⟩

/-- The number of a device's first page, as the kernel computes it. -/
theorem yOf_mul : ∀ c : Dev nD, Scalar.muli (yOf c) 64#32 = BitVec.ofNat 32 (64 * (c.val % 2)) := by decide

/-- The kernel's quotient by 16, rounded down, is that of the natural numbers. -/
theorem div16 (n : ℕ) (hn : n < 1024) : (Scalar.select
                (IntOp.andi
                  (IntOp.cmpi CmpIPredicate.ne
                    (IntOp.subi (BitVec.setWidth 32 (IntOp.cmpi CmpIPredicate.sgt (BitVec.ofNat 32 n) 0#32))
                      (BitVec.setWidth 32 (IntOp.cmpi CmpIPredicate.slt (BitVec.ofNat 32 n) 0#32)))
                    (Scalar.subi (1#32) (Scalar.extui 0#1)))
                  (IntOp.cmpi CmpIPredicate.ne (IntOp.remsi ArithUnit.vector (BitVec.ofNat 32 n) 16#32) 0#32))
                (IntOp.subi (IntOp.divsi ArithUnit.vector (BitVec.ofNat 32 n) 16#32) 1#32)
                (IntOp.divsi ArithUnit.vector (BitVec.ofNat 32 n) 16#32)) = BitVec.ofNat 32 (n / 16) := by
  have : ∀ n : Fin 1024, (Scalar.select
                (IntOp.andi
                  (IntOp.cmpi CmpIPredicate.ne
                    (IntOp.subi (BitVec.setWidth 32 (IntOp.cmpi CmpIPredicate.sgt (BitVec.ofNat 32 n.val) 0#32))
                      (BitVec.setWidth 32 (IntOp.cmpi CmpIPredicate.slt (BitVec.ofNat 32 n.val) 0#32)))
                    (Scalar.subi (1#32) (Scalar.extui 0#1)))
                  (IntOp.cmpi CmpIPredicate.ne (IntOp.remsi ArithUnit.vector (BitVec.ofNat 32 n.val) 16#32) 0#32))
                (IntOp.subi (IntOp.divsi ArithUnit.vector (BitVec.ofNat 32 n.val) 16#32) 1#32)
                (IntOp.divsi ArithUnit.vector (BitVec.ofNat 32 n.val) 16#32)) = BitVec.ofNat 32 (n.val / 16) := by
    decide +kernel
  exact this ⟨n, hn⟩

/-- A slot's word compared with a request's number of pages. -/
theorem inUse_word (L : IVec S8 32) (b : Fin 8) (s : Fin 64) :
    IntOp.cmpi .slt (BitVec.ofNat 32 s.val) (L (ix1 b)) = if inUse L b s then 1#1 else 0#1 := by
  have hs : (BitVec.ofNat 32 s.val).toInt = s.val := toInt_ofNat_of_lt (by omega)
  have hi : (BitVec.ofNat 32 s.val).slt (L (ix1 b)) = true ↔ inUse L b s := by
    rw [BitVec.slt_iff_toInt_lt, hs]
    rfl
  by_cases h : inUse L b s
  · simp [IntOp.cmpi, h, hi.mpr h]
  · have : (BitVec.ofNat 32 s.val).slt (L (ix1 b)) = false := by
      rw [Bool.eq_false_iff, Ne, hi]
      exact h
    simp [IntOp.cmpi, h, this]

/-- The kernel's test of a slot against a page. -/
theorem slot_eq (c : Dev nD) (B : IVec S8x64 32) (L : IVec S8 32) (b : Fin 8) (p : Fin 64)
    (hB : ∀ s, inUse L b s → 0 ≤ (B (ix2 b s)).toInt ∧ (B (ix2 b s)).toInt < 128) (s : Fin 64) :
    Scalar.select (IntOp.cmpi .slt (BitVec.ofNat 32 s.val) (L (ix1 b))) (B (ix2 b s)) 4294967295#32
        = IntOp.addi (BitVec.ofNat 32 p.val) (Scalar.muli (yOf c) 64#32)
      ↔ inUse L b s ∧ pageAt B b s = pageOf c p := by
  have hr : IntOp.addi (BitVec.ofNat 32 p.val) (Scalar.muli (yOf c) 64#32)
      = BitVec.ofNat 32 (pageOf c p).val := by
    rw [yOf_mul]
    show BitVec.ofNat 32 _ + BitVec.ofNat 32 _ = _
    rw [← BitVec.ofNat_add, Nat.add_comm]
    rfl
  rw [hr]
  by_cases h : inUse L b s
  · have hc := (inUse_word L b s).trans (if_pos h)
    obtain ⟨h0, h1⟩ := hB s h
    have hn : (B (ix2 b s)).toInt.toNat = (B (ix2 b s)).toNat := by
      rw [BitVec.toInt_eq_toNat_cond] at h0 ⊢
      have := (B (ix2 b s)).isLt
      split at h0 <;> split <;> omega
    rw [hc]
    simp only [h, true_and]
    rw [← BitVec.toNat_inj, Fin.ext_iff, BitVec.toNat_ofNat, Nat.mod_eq_of_lt (by omega), pageAt_val B b s h0 h1, hn]
    rfl
  · have hc := (inUse_word L b s).trans (if_neg h)
    rw [hc]
    simp only [h, false_and, iff_false]
    rw [← BitVec.toNat_inj, BitVec.toNat_ofNat, Nat.mod_eq_of_lt (by omega)]
    have := (pageOf c p).isLt
    simp [Scalar.select]
    omega

/-- How often a request uses a local page. -/
theorem uses_apply (c : Dev nD) (B : IVec S8x64 32) (L : IVec S8 32) (b : Fin 8) (p : Fin 64)
    (hB : ∀ s, inUse L b s → 0 ≤ (B (ix2 b s)).toInt ∧ (B (ix2 b s)).toInt < 128) :
    uses (F := Ideal) c B L (ix2 b p) = ((hits (inUse L b) (pageAt B b) (pageOf c p) : ℝ) : EReal) := by
  pointwise [uses, k0_pay2]
  simp only [lensAt_apply]
  rw [hits, coe_sum]
  refine Finset.sum_congr rfl fun s _ => ?_
  rw [sitofp_eq]
  congr 1
  refine if_congr ?_ rfl rfl
  rw [← slot_eq c B L b p hB]
  refine Eq.congr_left ?_
  congr 2
  fin_cases b <;> rfl

/-- The weight of a position is how often the request uses its page. -/
theorem weights_apply (c : Dev nD) (B : IVec S8x64 32) (L : IVec S8 32) (b : Fin 8) (t : Fin 1024) :
    weights (F := Ideal) c B L (ix2 b t) = uses (F := Ideal) c B L (ix2 b ⟨t.val / 16, by omega⟩) := by
  pointwise [weights, k0_pay5, k0_pay3, k0_pay4]
  rw [Finset.sum_eq_single (⟨t.val / 16, by omega⟩ : Fin 64)]
  · rw [div16 _ t.isLt, sitofp_eq]
    simp
  · intro x _ hx
    rw [div16 _ t.isLt, sitofp_eq, if_neg]
    · simp
    · intro h
      refine hx (Fin.ext ?_)
      have := congrArg BitVec.toNat h
      simpa [BitVec.toNat_ofNat, Nat.mod_eq_of_lt (show x.val < 4294967296 by omega),
        Nat.mod_eq_of_lt (show t.val / 16 < 4294967296 by omega)] using this
  · simp

end Cert.Attn
end
end
-- ==== Proof.Head.lean ====
/-
One head on one device: its scores, their maximum, the weighted exponentials, their sum and the weighted sum of the
values, read at an index as numbers.
-/
module

public import proofs.«01_k».proof.Proof.Local

@[expose] public section

noncomputable section

namespace Cert.Attn

open Cert.KernelIdeal Cert.KernelIdeal.Gen

open Idealize.ShloMosaic

/-- The scale of the scores is an eighth. -/
theorem ofBits_eighth : Ideal.ofBits .f32 0x3E000000#32 = (((1 : ℝ) / 8 : ℝ) : EReal) := by
  simp [Ideal.ofBits, Ideal.ieee]
  rw [← EReal.coe_mul]
  norm_num

/-- The mask's value is a real number. -/
theorem ofBits_mask : ∃ r : ℝ, Ideal.ofBits .f32 0xF149F2CA#32 = (r : EReal) := by
  simp [Ideal.ofBits, Ideal.ieee]
  exact ⟨_, rfl⟩

/-- The maximum's start is minus infinity. -/
theorem ofBits_bot : Ideal.ofBits .f32 0xFF800000#32 = ⊥ := by
  simp [Ideal.ofBits, Ideal.ieee]

/-- The largest of numbers none of which is plus infinity and one of which is not minus infinity is a real number. -/
theorem fold_max_real {ι : Type} (s : Finset ι) (f : ι → EReal) (ht : ∀ i ∈ s, f i < ⊤) (hb : ∃ i ∈ s, ⊥ < f i) :
    ∃ r : ℝ, s.fold max ⊥ f = (r : EReal) := by
  have h1 : s.fold max ⊥ f < ⊤ := (Finset.fold_max_lt _).mpr ⟨bot_lt_top, ht⟩
  have h2 : ⊥ < s.fold max ⊥ f := (Finset.lt_fold_max _).mpr (.inr hb)
  exact ⟨_, (EReal.coe_toReal h1.ne h2.ne').symm⟩

/-- The head that a device calls `h`, among all heads. -/
def headOf (c : Dev nD) (h : ℕ) (hh : h < 4) : Fin 8 := ⟨4 * (c.val / 2) + h, head_lt c h hh⟩

/-- The first row of the mesh holds the first four heads. -/
theorem firstHeads_eq : ∀ c : Dev nD, firstHeads c = if c.val / 2 = 0 then 1#1 else 0#1 := by decide

/-- An element of the query a device reads for its head `h`, scaled. -/
theorem query_apply (c : Dev nD) (Q : Vec Ideal S8x1x8x64 .f32) (h : ℕ) (hh : h < 4) (b : Fin 8) (d : Fin 64) :
    query c Q h hh (ix2 b d) = Q (ix4 b 0 (headOf c h hh) d) * (((1 : ℝ) / 8 : ℝ) : EReal) := by
  pointwise [query, rowOf]
  rw [ofBits_eighth]
  congr 1
  have hc : c.val < 4 := c.isLt
  rw [firstHeads_eq]
  split
  · rename_i e
    show Q _ = Q _
    congr 2
    exact Fin.ext (by simp [headOf, e])
  · rename_i e
    show Q _ = Q _
    congr 2
    exact Fin.ext (by simp [headOf]; omega)

section
variable (c : Dev nD) (q : S8x1x8x64.Idx → ℝ) (κ : S64x16x8x64.Idx → ℝ) (V : Vec Ideal S64x16x8x64 .f32)
  (B : IVec S8x64 32) (L : IVec S8 32)

/-- A page of a device's block, from a position in it. -/
def pg (t : Fin 1024) : Fin 64 := ⟨t.val / 16, by omega⟩
/-- A token of a page, from a position in a device's block. -/
def tok (t : Fin 1024) : Fin 16 := ⟨t.val % 16, by omega⟩

/-- The score of a position, as a real number. -/
def score (h : ℕ) (hh : h < 4) (b : Fin 8) (t : Fin 1024) : ℝ :=
  ∑ d : Fin 64, q (ix4 b 0 (headOf c h hh) d) * (1 / 8) * κ (ix4 (pg t) (tok t) (headOf c h hh) d)

/-- The mask's value, as a real number. -/
def maskValue : ℝ := (Ideal.ofBits .f32 0xF149F2CA#32).toReal

/-- The masked score of a position. -/
def masked (h : ℕ) (hh : h < 4) (b : Fin 8) (t : Fin 1024) : ℝ :=
  if hits (inUse L b) (pageAt B b) (pageOf c (pg t)) = 0 then maskValue else score c q κ h hh b t

variable (hB : ∀ b s, inUse L b s → 0 ≤ (B (ix2 b s)).toInt ∧ (B (ix2 b s)).toInt < 128)
include hB

/-- The weight of a position is the number of the request's pages that are its page. -/
theorem weights_eq (b : Fin 8) (t : Fin 1024) :
    weights (F := Ideal) c B L (ix2 b t) = ((hits (inUse L b) (pageAt B b) (pageOf c (pg t)) : ℝ) : EReal) := by
  rw [weights_apply, uses_apply _ _ _ _ _ (hB b)]
  rfl

/-- A device's masked score of a position. -/
theorem scoresAt_apply (h : ℕ) (hh : h < 4) (b : Fin 8) (t : Fin 1024) :
    scoresAt (F := Ideal) c (fun i => (q i : EReal)) (fun i => (κ i : EReal)) B L h hh (ix2 b t)
      = (masked c q κ B L h hh b t : EReal) := by
  unfold scoresAt
  pointwise [scores, dot_S8x64_S512x64_S8x512_1_1_0_0_n_n]
  simp only [weights_eq c B L hB, query_apply, keys_apply]
  obtain ⟨r, hr⟩ := ofBits_mask
  unfold masked maskValue
  rw [hr]
  have hn := hits_nonneg (inUse L b) (pageAt B b) (pageOf c (pg t))
  by_cases h0 : hits (inUse L b) (pageAt B b) (pageOf c (pg t)) = 0
  · simp [h0]
  · have hp : (0 : EReal) < ((hits (inUse L b) (pageAt B b) (pageOf c (pg t)) : ℝ) : EReal) := by
      exact_mod_cast lt_of_le_of_ne hn (Ne.symm h0)
    rw [if_pos hp, if_neg h0]
    unfold score
    rw [coe_sum]
    simp only [EReal.coe_mul]
    have ht := t.isLt
    split
    · refine Finset.sum_congr rfl fun d _ => ?_
      congr 4
      exact Fin.ext (Nat.zero_add _)
    · refine Finset.sum_congr rfl fun d _ => ?_
      congr 4
      · exact Fin.ext (by simp [pg]; omega)
      · exact Fin.ext (by simp [tok]; omega)

/-- The largest masked score of a device is a real number. -/
theorem maxAt_real (h : ℕ) (hh : h < 4) (b : Fin 8) :
    ∃ m : ℝ, maxAt (F := Ideal) c (fun i => (q i : EReal)) (fun i => (κ i : EReal)) B L h hh (ix2 b 0) = (m : EReal) := by
  unfold maxAt
  pointwise [maxOf]
  rw [ofBits_bot]
  refine fold_max_real _ _ (fun t _ => ?_) ⟨0, Finset.mem_univ _, ?_⟩
  · rw [scoresAt_apply c q κ B L hB]
    exact EReal.coe_lt_top _
  · rw [scoresAt_apply c q κ B L hB]
    exact EReal.bot_lt_coe _

/-- The weighted exponential of a position. -/
theorem expAt_apply (h : ℕ) (hh : h < 4) (b : Fin 8) (m : ℝ)
    (hm : maxAt (F := Ideal) c (fun i => (q i : EReal)) (fun i => (κ i : EReal)) B L h hh (ix2 b 0) = (m : EReal))
    (t : Fin 1024) :
    expAt (F := Ideal) c (fun i => (q i : EReal)) (fun i => (κ i : EReal)) B L h hh (ix2 b t)
      = ((hits (inUse L b) (pageAt B b) (pageOf c (pg t)) * Real.exp (masked c q κ B L h hh b t - m) : ℝ) : EReal) := by
  unfold expAt
  pointwise [expOf]
  unfold maxAt at hm
  rw [hm, scoresAt_apply c q κ B L hB, weights_eq c B L hB, ← EReal.coe_sub, Ideal.exp_coe, ← EReal.coe_mul]

/-- The sum of a device's weighted exponentials. -/
theorem sumAt_apply (h : ℕ) (hh : h < 4) (b : Fin 8) (m : ℝ)
    (hm : maxAt (F := Ideal) c (fun i => (q i : EReal)) (fun i => (κ i : EReal)) B L h hh (ix2 b 0) = (m : EReal)) :
    sumAt (F := Ideal) c (fun i => (q i : EReal)) (fun i => (κ i : EReal)) B L h hh (ix2 b 0)
      = ∑ t, ((hits (inUse L b) (pageAt B b) (pageOf c (pg t)) * Real.exp (masked c q κ B L h hh b t - m) : ℝ) : EReal) := by
  unfold sumAt
  pointwise [sumOf]
  simp only [expAt_apply c q κ B L hB h hh b m hm]

/-- A device's values weighted by its exponentials, and summed. -/
theorem dotAt_apply (h : ℕ) (hh : h < 4) (b : Fin 8) (m : ℝ)
    (hm : maxAt (F := Ideal) c (fun i => (q i : EReal)) (fun i => (κ i : EReal)) B L h hh (ix2 b 0) = (m : EReal))
    (d : Fin 64) :
    dotAt (F := Ideal) c (fun i => (q i : EReal)) (fun i => (κ i : EReal)) V B L h hh (ix2 b d)
      = ∑ t, ((hits (inUse L b) (pageAt B b) (pageOf c (pg t)) * Real.exp (masked c q κ B L h hh b t - m) : ℝ) : EReal)
          * V (ix4 (pg t) (tok t) (headOf c h hh) d) := by
  unfold dotAt
  pointwise [dotOf, dot_S8x1024_S1024x64_S8x64_1_0_0_1_n_n]
  simp only [expAt_apply c q κ B L hB h hh b m hm, values_apply]
  rfl

end

end Cert.Attn
end
end
-- ==== Proof.Joined.lean ====
/-
The packed buffer and the result of a device, read at an index.
-/
module

public import proofs.«01_k».proof.Proof.Head

@[expose] public section

noncomputable section

namespace Cert.Attn

open Cert.KernelIdeal Cert.KernelIdeal.Gen

open Idealize.ShloMosaic

section
variable (c : Dev nD) (Q : Vec Ideal S8x1x8x64 .f32) (K V : Vec Ideal S64x16x8x64 .f32) (B : IVec S8x64 32) (L : IVec S8 32)

/-- What lies at an index of the packed buffer: the weighted sum, then the maximum, then the sum. -/
def packAt (i : S8x4x66.Idx) : Ideal .f32 :=
  if hd : (i 2).val < 64 then dotAt (F := Ideal) c Q K V B L (i 1).val (i 1).isLt (ix2 (i 0) ⟨(i 2).val, hd⟩)
  else if (i 2).val = 64 then maxAt (F := Ideal) c Q K B L (i 1).val (i 1).isLt (ix2 (i 0) 0)
  else sumAt (F := Ideal) c Q K B L (i 1).val (i 1).isLt (ix2 (i 0) 0)

/-- Place 64 of a packed head is its maximum. -/
theorem packAt_max (h : ℕ) (hh : h < 4) (b : Fin 8) :
    packAt c Q K V B L (ix3 b ⟨h, hh⟩ 64) = maxAt (F := Ideal) c Q K B L h hh (ix2 b 0) := rfl

/-- Place 65 of a packed head is its sum. -/
theorem packAt_sum (h : ℕ) (hh : h < 4) (b : Fin 8) :
    packAt c Q K V B L (ix3 b ⟨h, hh⟩ 65) = sumAt (F := Ideal) c Q K B L h hh (ix2 b 0) := rfl

/-- The first 64 places of a packed head are its weighted values. -/
theorem packAt_dot (h : ℕ) (hh : h < 4) (b : Fin 8) (d : Fin 64) :
    packAt c Q K V B L (ix3 b ⟨h, hh⟩ ⟨d.val, by omega⟩) = dotAt (F := Ideal) c Q K V B L h hh (ix2 b d) :=
  dif_pos d.isLt

/-- A column laid as a block of one head. -/
theorem column_apply (v : FVec Ideal S8x1 .f32) (x : S8x1x1.Idx) :
    shapeCast S8x1x1 v shapeCasts_S8x1_S8x1x1 x = v (ix2 (x 0) 0) := by
  rw [eq_ix3 x]
  pointwise

/-- A matrix laid as a block of one head. -/
theorem block_apply (v : FVec Ideal S8x64 .f32) (x : S8x1x64.Idx) :
    shapeCast S8x1x64 v shapeCasts_S8x64_S8x1x64 x = v (ix2 (x 0) (x 2)) := by
  rw [eq_ix3 x]
  pointwise

/-- Every index of the packed buffer whose head is `h` lies in one of the writes of that head. -/
theorem packHead_cover (h : ℕ) (hh : h < 4) (i : S8x4x66.Idx) (hi : (i 1).val = h) :
    ∃ p ∈ packHead (F := Ideal) c Q K V B L h hh, i ∈ p.1.set := by
  have h0 := (i 0).isLt
  have h2 : (i 2).val < 66 := (i 2).isLt
  have key : ∀ (k n : ℕ) (inb : ∀ a, (![0, h, k] : Fin 3 → ℕ) a + (![8, 1, n] : Fin 3 → ℕ) a ≤ S8x4x66.size a),
      k ≤ (i 2).val → (i 2).val < k + n → i ∈ (Rect.unit (s := S8x4x66) ![0, h, k] ![8, 1, n] inb).set := by
    intro k n inb hk hn
    refine Rect.mem_set_unit.mpr fun a => ?_
    fin_cases a
    · exact ⟨Nat.zero_le _, by simpa using h0⟩
    · exact ⟨hi.ge, hi.le.trans_lt (Nat.lt_succ_self h)⟩
    · exact ⟨hk, hn⟩
  by_cases hd : (i 2).val < 64
  · exact ⟨_, List.mem_cons_of_mem _ (List.mem_cons_of_mem _ List.mem_cons_self),
      key 0 64 (inb_partial h hh) (Nat.zero_le _) (by omega)⟩
  · by_cases hm : (i 2).val = 64
    · exact ⟨_, List.mem_cons_of_mem _ List.mem_cons_self,
        key 64 1 (inb_field h hh 64 (by decide)) (by omega) (by omega)⟩
    · exact ⟨_, List.mem_cons_self, key 65 1 (inb_field h hh 65 (by decide)) (by omega) (by omega)⟩

/-- Where an index of a write of head `h` from place `k` on lies in the packed buffer. -/
theorem emb_head (h : ℕ) (hh : h < 4) (k n : ℕ)
    (inb : ∀ a, (![0, h, k] : Fin 3 → ℕ) a + (![8, 1, n] : Fin 3 → ℕ) a ≤ S8x4x66.size a)
    (x : (⟨3, ![8, 1, n]⟩ : Shape).Idx) (hk : k + (x 2).val < 66) :
    (Rect.unit (s := S8x4x66) ![0, h, k] ![8, 1, n] inb).emb x = ix3 (x 0) ⟨h, hh⟩ ⟨k + (x 2).val, hk⟩ := by
  have h1 : (x 1).val < 1 := (x 1).isLt
  funext a
  refine Fin.ext ((emb_val _ _ _ _ _).trans ?_)
  fin_cases a
  · exact Nat.zero_add _
  · exact (congrArg (h + ·) (by omega : (x 1).val = 0)).trans (Nat.add_zero h)
  · rfl

/-- The write of a head's sum puts what `packAt` says. -/
theorem write_sum (h : ℕ) (hh : h < 4) (x : S8x1x1.Idx) :
    shapeCast S8x1x1 (sumAt (F := Ideal) c Q K B L h hh) shapeCasts_S8x1_S8x1x1 x
      = packAt c Q K V B L ((Rect.unit (s := S8x4x66) ![0, h, 65] S8x1x1.size (inb_field h hh 65 (by decide))).emb x) := by
  have h2 : (x 2).val < 1 := (x 2).isLt
  have e : (⟨65 + (x 2).val, by omega⟩ : Fin 66) = 65 := Fin.ext (show 65 + (x 2).val = 65 by omega)
  rw [column_apply, ← packAt_sum c Q K V B L h hh (x 0), ← e]
  exact congrArg (packAt c Q K V B L) (emb_head h hh 65 1 _ x _).symm

/-- The write of a head's maximum puts what `packAt` says. -/
theorem write_max (h : ℕ) (hh : h < 4) (x : S8x1x1.Idx) :
    shapeCast S8x1x1 (maxAt (F := Ideal) c Q K B L h hh) shapeCasts_S8x1_S8x1x1 x
      = packAt c Q K V B L ((Rect.unit (s := S8x4x66) ![0, h, 64] S8x1x1.size (inb_field h hh 64 (by decide))).emb x) := by
  have h2 : (x 2).val < 1 := (x 2).isLt
  have e : (⟨64 + (x 2).val, by omega⟩ : Fin 66) = 64 := Fin.ext (show 64 + (x 2).val = 64 by omega)
  rw [column_apply, ← packAt_max c Q K V B L h hh (x 0), ← e]
  exact congrArg (packAt c Q K V B L) (emb_head h hh 64 1 _ x _).symm

/-- The write of a head's weighted values puts what `packAt` says. -/
theorem write_dot (h : ℕ) (hh : h < 4) (x : S8x1x64.Idx) :
    shapeCast S8x1x64 (dotAt (F := Ideal) c Q K V B L h hh) shapeCasts_S8x64_S8x1x64 x
      = packAt c Q K V B L ((Rect.unit (s := S8x4x66) ![0, h, 0] S8x1x64.size (inb_partial h hh)).emb x) := by
  have h2 : (x 2).val < 64 := (x 2).isLt
  have e : (⟨0 + (x 2).val, by omega⟩ : Fin 66) = ⟨(x 2).val, by omega⟩ := Fin.ext (Nat.zero_add _)
  rw [block_apply]
  refine (packAt_dot c Q K V B L h hh (x 0) (x 2)).symm.trans ?_
  rw [← e]
  exact congrArg (packAt c Q K V B L) (emb_head h hh 0 64 _ x _).symm

set_option maxRecDepth 10000 in
/-- A head's writes put in the packed buffer what `packAt` says. -/
theorem packHead_agrees (h : ℕ) (hh : h < 4) (p : View.Piece (Elt Ideal) S8x4x66 .f32)
    (hp : p ∈ packHead (F := Ideal) c Q K V B L h hh) (x : p.1.shape.Idx) :
    p.2 x = packAt c Q K V B L (p.1.emb x) := by
  unfold packHead at hp
  rcases List.mem_cons.mp hp with rfl | hp
  · exact write_sum c Q K V B L h hh x
  rcases List.mem_cons.mp hp with rfl | hp
  · exact write_max c Q K V B L h hh x
  rcases List.mem_cons.mp hp with rfl | hp
  · exact write_dot c Q K V B L h hh x
  · exact absurd hp List.not_mem_nil

/-- The packed buffer holds what `packAt` says. -/
theorem packOf_apply (i : S8x4x66.Idx) : packOf (F := Ideal) c Q K V B L i = packAt c Q K V B L i := by
  have hm : ∀ h (hh : h < 4) p, p ∈ packHead (F := Ideal) c Q K V B L h hh →
      p ∈ packHead (F := Ideal) c Q K V B L 3 (by decide) ++ packHead c Q K V B L 2 (by decide)
        ++ packHead c Q K V B L 1 (by decide) ++ packHead c Q K V B L 0 (by decide) := by
    intro h hh p hp
    simp only [List.mem_append]
    obtain rfl | rfl | rfl | rfl : h = 0 ∨ h = 1 ∨ h = 2 ∨ h = 3 := by omega
    · exact .inr hp
    · exact .inl (.inr hp)
    · exact .inl (.inl (.inr hp))
    · exact .inl (.inl (.inl hp))
  refine View.canon_apply_of_pieces _ _ (fun p hp x => ?_) i ?_
  · simp only [List.mem_append] at hp
    obtain ((hp | hp) | hp) | hp := hp <;> exact packHead_agrees c Q K V B L _ _ p hp x
  · obtain ⟨p, hp, hi⟩ := packHead_cover c Q K V B L (i 1).val (i 1).isLt i rfl
    exact ⟨p, hm _ _ p hp, hi⟩

/-- The maximum read back from a packed buffer. -/
theorem field_max (h : ℕ) (hh : h < 4) (b : Fin 8) :
    fieldOf (packOf (F := Ideal) c Q K V B L) h hh 64 (by decide) (ix2 b 0) = maxAt (F := Ideal) c Q K B L h hh (ix2 b 0) := by
  pointwise [fieldOf]
  rw [packOf_apply]
  exact packAt_max c Q K V B L h hh b

/-- The sum read back from a packed buffer. -/
theorem field_sum (h : ℕ) (hh : h < 4) (b : Fin 8) :
    fieldOf (packOf (F := Ideal) c Q K V B L) h hh 65 (by decide) (ix2 b 0) = sumAt (F := Ideal) c Q K B L h hh (ix2 b 0) := by
  pointwise [fieldOf]
  rw [packOf_apply]
  exact packAt_sum c Q K V B L h hh b

/-- The weighted values read back from a packed buffer. -/
theorem partial_dot (h : ℕ) (hh : h < 4) (b : Fin 8) (d : Fin 64) :
    partialOf (packOf (F := Ideal) c Q K V B L) h hh (ix2 b d) = dotAt (F := Ideal) c Q K V B L h hh (ix2 b d) := by
  pointwise [partialOf]
  rw [packOf_apply]
  exact packAt_dot c Q K V B L h hh b d

end

/-! ## The result -/

/-- The peer in direction 0 holds the same heads and the other pages; the other two peers hold the other heads, and
    between them all the pages. -/
theorem pe_spec : ∀ c : Dev nD, (pe 0 c).val / 2 = c.val / 2 ∧ c.val % 2 ≠ (pe 0 c).val % 2
    ∧ (pe 1 c).val / 2 = 1 - c.val / 2 ∧ (pe 2 c).val / 2 = 1 - c.val / 2 ∧ (pe 1 c).val % 2 ≠ (pe 2 c).val % 2 := by
  decide

/-- Two numbers joined with their maxima and sums. -/
def joined (m₁ l₁ o₁ m₂ l₂ o₂ : EReal) : EReal :=
  Ideal.div (o₁ * Ideal.exp (m₁ - max m₁ m₂) + o₂ * Ideal.exp (m₂ - max m₁ m₂))
    (l₁ * Ideal.exp (m₁ - max m₁ m₂) + l₂ * Ideal.exp (m₂ - max m₁ m₂))

/-- An element of two partial results merged. -/
theorem merged_apply (m₁ l₁ : FVec Ideal S8x1 .f32) (o₁ : FVec Ideal S8x64 .f32) (m₂ l₂ : FVec Ideal S8x1 .f32)
    (o₂ : FVec Ideal S8x64 .f32) (b : Fin 8) (d : Fin 64) :
    merged m₁ l₁ o₁ m₂ l₂ o₂ (ix2 b d)
      = joined (m₁ (ix2 b 0)) (l₁ (ix2 b 0)) (o₁ (ix2 b d)) (m₂ (ix2 b 0)) (l₂ (ix2 b 0)) (o₂ (ix2 b d)) := by
  pointwise [merged]
  rfl

section
variable (Q : Dev nD → Vec Ideal S8x1x8x64 .f32) (K V : Dev nD → Vec Ideal S64x16x8x64 .f32)
  (B : Dev nD → IVec S8x64 32) (L : Dev nD → IVec S8 32)

/-- The two devices' results for one head joined. -/
def joinOf (a a' : Dev nD) (h : ℕ) (hh : h < 4) (b : Fin 8) (d : Fin 64) : EReal :=
  joined (maxAt (F := Ideal) a (Q a) (K a) (B a) (L a) h hh (ix2 b 0))
    (sumAt (F := Ideal) a (Q a) (K a) (B a) (L a) h hh (ix2 b 0))
    (dotAt (F := Ideal) a (Q a) (K a) (V a) (B a) (L a) h hh (ix2 b d))
    (maxAt (F := Ideal) a' (Q a') (K a') (B a') (L a') h hh (ix2 b 0))
    (sumAt (F := Ideal) a' (Q a') (K a') (B a') (L a') h hh (ix2 b 0))
    (dotAt (F := Ideal) a' (Q a') (K a') (V a') (B a') (L a') h hh (ix2 b d))

/-- What the devices send. -/
def packs : Dev nD → Pack Ideal := fun a => packOf (F := Ideal) a (Q a) (K a) (V a) (B a) (L a)

/-- A device's own heads: its result and that of the peer with the same heads, joined. -/
theorem mine_apply (c : Dev nD) (h : ℕ) (hh : h < 4) (b : Fin 8) (d : Fin 64) :
    mine (packs Q K V B L) c (Q c) (K c) (V c) (B c) (L c) h hh (ix2 b d) = joinOf Q K V B L c (pe 0 c) h hh b d := by
  unfold mine packs
  rw [merged_apply, field_max, field_sum, partial_dot]
  rfl

/-- The other heads: the results of the two peers that hold them, joined. -/
theorem theirs_apply (c : Dev nD) (h : ℕ) (hh : h < 4) (b : Fin 8) (d : Fin 64) :
    theirs (packs Q K V B L) c h hh (ix2 b d) = joinOf Q K V B L (pe 1 c) (pe 2 c) h hh b d := by
  unfold theirs packs
  simp only [merged_apply, field_max, field_sum, partial_dot]
  rfl

/-- A matrix laid as a row of heads. -/
theorem row_apply (v : FVec Ideal S8x64 .f32) (x : S8x1x1x64.Idx) :
    shapeCast S8x1x1x64 v shapeCasts_S8x64_S8x1x1x64 x = v (ix2 (x 0) (x 3)) := by
  rw [eq_ix4 x]
  pointwise

/-- Where an index of the write of head `h` lies in the result. -/
theorem emb_row (h : ℕ) (hh : h < 8) (x : S8x1x1x64.Idx) :
    (Rect.unit (s := S8x1x8x64) ![0, 0, h, 0] S8x1x1x64.size (inb_row h hh)).emb x = ix4 (x 0) 0 ⟨h, hh⟩ (x 3) := by
  have h1 : (x 1).val < 1 := (x 1).isLt
  have h2 : (x 2).val < 1 := (x 2).isLt
  funext a
  refine Fin.ext ((emb_val _ _ _ _ _).trans ?_)
  fin_cases a
  · exact Nat.zero_add _
  · exact (Nat.zero_add _).trans (by omega : (x 1).val = 0)
  · exact (congrArg (h + ·) (by omega : (x 2).val = 0)).trans (Nat.add_zero h)
  · exact Nat.zero_add _

/-- What a device returns for head `g`. -/
def headAt (c : Dev nD) (g : ℕ) (hg : g < 8) : FVec Ideal S8x64 .f32 :=
  if hlt : g < 4 then
    Scalar.select (firstHeads c) (mine (packs Q K V B L) c (Q c) (K c) (V c) (B c) (L c) g hlt)
      (theirs (packs Q K V B L) c g hlt)
  else
    Scalar.select (firstHeads c) (theirs (packs Q K V B L) c (g - 4) (by omega))
      (mine (packs Q K V B L) c (Q c) (K c) (V c) (B c) (L c) (g - 4) (by omega))

/-- The write of head `g` puts what `headAt` says. -/
theorem write_row (c : Dev nD) (g : ℕ) (hg : g < 8) (x : S8x1x1x64.Idx) (v : FVec Ideal S8x64 .f32)
    (hv : headAt Q K V B L c g hg = v) :
    shapeCast S8x1x1x64 v shapeCasts_S8x64_S8x1x1x64 x
      = (fun i : S8x1x8x64.Idx => headAt Q K V B L c (i 2).val (i 2).isLt (ix2 (i 0) (i 3)))
          ((Rect.unit (s := S8x1x8x64) ![0, 0, g, 0] S8x1x1x64.size (inb_row g hg)).emb x) := by
  rw [emb_row g hg, row_apply, ← hv]
  rfl

/-- The writes of a pair of heads put what `headAt` says. -/
theorem outHead_agrees (c : Dev nD) (h : ℕ) (hh : h < 4) (p : View.Piece (Elt Ideal) S8x1x8x64 .f32)
    (hp : p ∈ outHead (packs Q K V B L) c (Q c) (K c) (V c) (B c) (L c) h hh) (x : p.1.shape.Idx) :
    p.2 x = (fun i : S8x1x8x64.Idx => headAt Q K V B L c (i 2).val (i 2).isLt (ix2 (i 0) (i 3))) (p.1.emb x) := by
  unfold outHead at hp
  rcases List.mem_cons.mp hp with rfl | hp
  · exact write_row Q K V B L c (h + 4) (by omega) x _ (by
      unfold headAt
      rw [dif_neg (by omega)]
      rfl)
  rcases List.mem_cons.mp hp with rfl | hp
  · exact write_row Q K V B L c h (by omega) x _ (dif_pos hh)
  · exact absurd hp List.not_mem_nil

/-- A head of a device's result is the join of the results of the two devices that hold the head. -/
theorem outOf_apply (c : Dev nD) (b : Fin 8) (g : Fin 8) (d : Fin 64) :
    ∃ a a' : Dev nD, a.val / 2 = g.val / 4 ∧ a'.val / 2 = g.val / 4 ∧ a.val % 2 ≠ a'.val % 2 ∧
      outOf (packs Q K V B L) c (Q c) (K c) (V c) (B c) (L c) (ix4 b 0 g d)
        = joinOf Q K V B L a a' (g.val % 4) (by omega) b d := by
  have e : outOf (packs Q K V B L) c (Q c) (K c) (V c) (B c) (L c) (ix4 b 0 g d)
      = headAt Q K V B L c g.val g.isLt (ix2 b d) := by
    unfold outOf
    refine (View.canon_apply_of_pieces
      (fun i : S8x1x8x64.Idx => headAt Q K V B L c (i 2).val (i 2).isLt (ix2 (i 0) (i 3))) _ (fun p hp x => ?_) _
      (outPieces_cover _ c (Q c) (K c) (V c) (B c) (L c) _)).trans rfl
    simp only [outPieces, List.mem_append] at hp
    obtain ((hp | hp) | hp) | hp := hp <;> exact outHead_agrees Q K V B L c _ _ p hp x
  obtain ⟨p0, p0', p1, p2, p12⟩ := pe_spec c
  have hc : c.val < 4 := c.isLt
  have hg := g.isLt
  rw [e]
  unfold headAt
  rw [firstHeads_eq]
  by_cases hx : c.val / 2 = 0 <;> by_cases hlt : g.val < 4
  · refine ⟨c, pe 0 c, by omega, by omega, p0', ?_⟩
    rw [if_pos hx, dif_pos hlt]
    simp only [Nat.mod_eq_of_lt hlt]
    exact mine_apply Q K V B L c g.val hlt b d
  · refine ⟨pe 1 c, pe 2 c, by omega, by omega, p12, ?_⟩
    have hm : g.val % 4 = g.val - 4 := by omega
    rw [if_pos hx, dif_neg hlt]
    simp only [hm]
    exact theirs_apply Q K V B L c (g.val - 4) (by omega) b d
  · refine ⟨pe 1 c, pe 2 c, by omega, by omega, p12, ?_⟩
    rw [if_neg hx, dif_pos hlt]
    simp only [Nat.mod_eq_of_lt hlt]
    exact theirs_apply Q K V B L c g.val hlt b d
  · refine ⟨c, pe 0 c, by omega, by omega, p0', ?_⟩
    have hm : g.val % 4 = g.val - 4 := by omega
    rw [if_neg hx, dif_neg hlt]
    simp only [hm]
    exact mine_apply Q K V B L c (g.val - 4) (by omega) b d

end

end Cert.Attn
end
end
-- ==== Proof.RefValue.lean ====
/-
The reference's result, read at an index.
-/
module

public import proofs.«01_k».proof.Proof.Gen.ReferenceIdeal.Read
public import proofs.«01_k».proof.Proof.Head

@[expose] public section

noncomputable section

namespace Cert.Attn.Ref

open Cert.ReferenceIdeal Cert.ReferenceIdeal.Gen Cert.ReferenceIdeal.Read

open Idealize.ShloMosaic

/-- The pages that the table names, laid out per request and slot. -/
theorem gather_apply (X : S128x16x8x64.Idx → EReal) (I : IVec S8x64x1 32) (b : Fin 8) (s : Fin 64) (k : Fin 16)
    (h : Fin 8) (d : Fin 64) :
    Host.gather gather_S128x16x8x64_S8x64x1_S8x64x16x8x64_234_0_n_n_0_2_116864 X I (ix5 b s k h d)
      = X (ix4 ⟨min (I (ix3 b s 0)).toInt.toNat (128 - 1), by omega⟩ k h d) := by
  unfold Host.gather
  congr 1
  funext a
  refine Fin.ext ?_
  set D := gather_S128x16x8x64_S8x64x1_S8x64x16x8x64_234_0_n_n_0_2_116864 with hD
  show D.start (ix5 b s k h d) I a + D.batchCoord (ix5 b s k h d) a + D.offCoord (ix5 b s k h d) a = _
  rw [GatherDims.batchCoord_eq_zero _ _ _ List.not_mem_nil]
  by_cases ha : a = 0
  · subst ha
    rw [GatherDims.offCoord_eq_zero _ _ _ (fun h => ((GatherDims.mem_sKept _ _).mp h).1 (List.mem_singleton.mpr rfl))]
    unfold GatherDims.start
    rw [dif_pos (show (0 : Fin 4) ∈ D.startIndexMap from List.mem_singleton.mpr rfl)]
    have hsi : D.siIdx (ix5 b s k h d) ⟨List.idxOf (0 : Fin 4) D.startIndexMap,
        List.idxOf_lt_length_iff.2 (List.mem_singleton.mpr rfl)⟩ = ix3 b s 0 := by
      funext c
      refine Fin.ext ?_
      match c with
      | ⟨0, _⟩ => rfl
      | ⟨1, _⟩ => rfl
      | ⟨2, _⟩ => rfl
    rw [hsi]
    rfl
  · have h0 : D.start (ix5 b s k h d) I a = 0 := by
      unfold GatherDims.start
      rw [dif_neg (show a ∉ D.startIndexMap from fun h => ha (List.mem_singleton.mp h))]
    rw [h0]
    match a with
    | ⟨0, _⟩ => exact absurd rfl ha
    | ⟨1, _⟩ => exact (Nat.zero_add _).trans rfl
    | ⟨2, _⟩ => exact (Nat.zero_add _).trans rfl
    | ⟨3, _⟩ => exact (Nat.zero_add _).trans rfl

section
variable (q : S8x1x8x64.Idx → ℝ) (κ : S128x16x8x64.Idx → ℝ) (V : S128x16x8x64.Idx → EReal)
  (B : IVec S8x64 32) (L : IVec S8 32)

/-- An element of the query with its singleton axis dropped. -/
theorem query_apply (X : S8x1x8x64.Idx → EReal) (b h : Fin 8) (d : Fin 64) :
    val_main_v0 (F := Ideal) X (ix3 b h d) = X (ix4 b 0 h d) := by
  pointwise [val_main_v0]

/-- An element of the gathered keys. -/
theorem keys_apply (X : S128x16x8x64.Idx → EReal) (b : Fin 8) (s : Fin 64) (k : Fin 16) (h : Fin 8) (d : Fin 64) :
    val_main_v7 (F := Ideal) X B (ix5 b s k h d) = X (ix4 (pageAt B b s) k h d) := by
  have e : val_main_v6 (F := Ideal) B (ix3 b s 0)
      = Scalar.select (IntOp.cmpi .slt (B (ix2 b s)) 0#32) (IntOp.addi (B (ix2 b s)) 128#32) (B (ix2 b s)) := by
    rw [val_main_v6_apply, show idx_main_v6 (ix3 b s 0) = ix2 b s from eq_ix2 _, val_main_v5_apply, val_main_v2_apply,
      val_main_v4_apply, val_main_v1_apply, val_main_v3_apply]
    rfl
  unfold val_main_v7
  rw [gather_apply]
  exact congrArg (fun p => X (ix4 p k h d)) (Fin.ext (congrArg (fun w : BitVec 32 => min w.toInt.toNat (128 - 1)) e))

/-- An element of the gathered values. -/
theorem values_apply (X : S128x16x8x64.Idx → EReal) (b : Fin 8) (s : Fin 64) (k : Fin 16) (h : Fin 8) (d : Fin 64) :
    val_main_v31 (F := Ideal) X B (ix5 b s k h d) = X (ix4 (pageAt B b s) k h d) :=
  keys_apply B X b s k h d

/-- The score of a token of a page, as a real number. -/
def score (b h : Fin 8) (p : Fin 128) (k : Fin 16) : ℝ :=
  (∑ d : Fin 64, q (ix4 b 0 h d) * κ (ix4 p k h d)) * (1 / 8)

/-- The reference's score of a slot's token: minus infinity when the slot is not used. -/
theorem scores_apply (b h : Fin 8) (s : Fin 64) (k : Fin 16) :
    val_main_v15 (F := Ideal) (fun i => (q i : EReal)) (fun i => (κ i : EReal)) B L (ix4 b h s k)
      = if inUse L b s then (score q κ b h (pageAt B b s) k : EReal) else ⊥ := by
  have e : val_main_v10 (F := Ideal) (fun i => (q i : EReal)) (fun i => (κ i : EReal)) B (ix4 b h s k)
      = (score q κ b h (pageAt B b s) k : EReal) := by
    rw [val_main_v10_apply, val_main_v8_apply, val_main_v9_apply, val_main_cst_apply]
    simp only [Ideal.mulf_def, Ideal.ofBits_def]
    rw [ofBits_eighth]
    unfold score
    rw [EReal.coe_mul, coe_sum]
    congr 1
    refine Finset.sum_congr rfl fun d _ => ?_
    rw [EReal.coe_mul]
    congr 1
    · rw [show lidx_main_v8 (ix4 b h s k) d = ix3 b h d from eq_ix3 _]
      exact query_apply _ b h d
    · rw [show ridx_main_v8 (ix4 b h s k) d = ix5 b s k h d from eq_ix5 _]
      exact keys_apply B (fun i => (κ i : EReal)) b s k h d
  rw [val_main_v15_apply, e, val_main_v14_apply, val_main_cst_1_apply, val_main_v13_apply, val_main_v12_apply,
    val_main_v11_apply, show idx_main_v12 (ix4 b h s k) = ix1 b from eq_ix1 _]
  simp only [Ideal.ofBits_def, ofBits_bot]
  rw [show (ix4 b h s k) 2 = s from rfl, inUse_word]
  by_cases hu : inUse L b s
  · rw [if_pos hu, if_pos hu]
    rfl
  · rw [if_neg hu, if_neg hu]
    rfl

/-- The largest score is a real number when the request has a page. -/
theorem max_real (b h : Fin 8) (hL : inUse L b 0) :
    ∃ M : ℝ, val_main_v16 (F := Ideal) (fun i => (q i : EReal)) (fun i => (κ i : EReal)) B L (ix2 b h) = (M : EReal) := by
  unfold val_main_v16
  have hs := scores_apply q κ B L
  generalize val_main_v15 (F := Ideal) (fun i => (q i : EReal)) (fun i => (κ i : EReal)) B L = S at hs
  pointwise
  rw [val_main_cst_2_apply]
  simp only [Ideal.ofBits_def, ofBits_bot, hs]
  refine fold_max_real _ _ (fun x _ => ?_) ⟨(0, 0), Finset.mem_univ _, ?_⟩
  · split
    · exact EReal.coe_lt_top _
    · exact bot_lt_top
  · rw [if_pos hL]
    exact EReal.bot_lt_coe _

/-- The exponential weight of a slot's token. -/
theorem exp_apply (b h : Fin 8) (M : ℝ)
    (hM : val_main_v16 (F := Ideal) (fun i => (q i : EReal)) (fun i => (κ i : EReal)) B L (ix2 b h) = (M : EReal))
    (s : Fin 64) (k : Fin 16) :
    val_main_v20 (F := Ideal) (fun i => (q i : EReal)) (fun i => (κ i : EReal)) B L (ix4 b h s k)
      = ((if inUse L b s then Real.exp (score q κ b h (pageAt B b s) k - M) else 0 : ℝ) : EReal) := by
  rw [val_main_v20_apply, val_main_v19_apply, scores_apply, val_main_v18_apply, val_main_v17_apply,
    show idx_main_v17 (idx_main_v18 (ix4 b h s k)) = ix2 b h from eq_ix2 _, hM]
  by_cases hu : inUse L b s
  · rw [if_pos hu, if_pos hu]
    simp only [Ideal.subf_def, Ideal.hostUnary_exp_def]
    rw [← EReal.coe_sub, Ideal.exp_coe]
  · rw [if_neg hu, if_neg hu]
    simp only [Ideal.subf_def, Ideal.hostUnary_exp_def]
    rw [EReal.bot_sub, Ideal.exp_bot]
    rfl

/-- The reference's result: the values weighted by the exponentials, over the sum of the exponentials. -/
theorem result_apply (b h : Fin 8) (M : ℝ)
    (hM : val_main_v16 (F := Ideal) (fun i => (q i : EReal)) (fun i => (κ i : EReal)) B L (ix2 b h) = (M : EReal))
    (d : Fin 64) :
    val_main_v33 (F := Ideal) (fun i => (q i : EReal)) (fun i => (κ i : EReal)) V B L (ix4 b 0 h d)
      = ∑ k : Fin 16, ∑ s : Fin 64,
          Ideal.div ((if inUse L b s then Real.exp (score q κ b h (pageAt B b s) k - M) else 0 : ℝ) : EReal)
            (∑ k : Fin 16, ∑ s : Fin 64,
              ((if inUse L b s then Real.exp (score q κ b h (pageAt B b s) k - M) else 0 : ℝ) : EReal))
            * V (ix4 (pageAt B b s) k h d) := by
  have he := exp_apply q κ B L b h M hM
  have hz : val_main_v21 (F := Ideal) (fun i => (q i : EReal)) (fun i => (κ i : EReal)) B L (ix2 b h)
      = ∑ k : Fin 16, ∑ s : Fin 64,
          ((if inUse L b s then Real.exp (score q κ b h (pageAt B b s) k - M) else 0 : ℝ) : EReal) := by
    unfold val_main_v21
    generalize val_main_v20 (F := Ideal) (fun i => (q i : EReal)) (fun i => (κ i : EReal)) B L = E at he
    pointwise
    rw [val_main_cst_3_apply]
    simp only [Ideal.ofBits_def, Ideal.ofBits_zero_f32, zero_add, he]
    exact Finset.sum_comm
  have hw : ∀ (s : Fin 64) (k : Fin 16),
      val_main_v24 (F := Ideal) (fun i => (q i : EReal)) (fun i => (κ i : EReal)) B L (ix4 b h s k)
        = Ideal.div ((if inUse L b s then Real.exp (score q κ b h (pageAt B b s) k - M) else 0 : ℝ) : EReal)
            (∑ k : Fin 16, ∑ s : Fin 64,
              ((if inUse L b s then Real.exp (score q κ b h (pageAt B b s) k - M) else 0 : ℝ) : EReal)) := by
    intro s k
    rw [val_main_v24_apply, he, val_main_v23_apply, val_main_v22_apply,
      show idx_main_v22 (idx_main_v23 (ix4 b h s k)) = ix2 b h from eq_ix2 _, hz]
    rfl
  have hv := values_apply B V
  rw [val_main_v33_apply, show idx_main_v33 (ix4 b 0 h d) = ix3 b h d from eq_ix3 _]
  unfold val_main_v32
  generalize val_main_v24 (F := Ideal) (fun i => (q i : EReal)) (fun i => (κ i : EReal)) B L = W at hw
  generalize val_main_v31 (F := Ideal) V B = X at hv
  pointwise [dot_S8x8x64x16_S8x64x16x8x64_S8x8x64_32_21_n_4_01_03]
  simp only [hw, hv]

end

end Cert.Attn.Ref
end
end
-- ==== Proof.Attends.lean ====
/-
What the precondition `attends` says of a device's arrays: every request attends to a page, the pages it attends to
are within the table of pages, and the query and the keys are finite.
-/
module

public import proofs.«01_k».proof.Defs
public import proofs.«01_k».proof.Proof.Head
public import Idealize.ShloMosaic.Lib.ReduceAll

@[expose] public section

noncomputable section

namespace Cert.Attn

open Idealize.ShloMosaic

/-- The precondition's parts, of one device's arrays. -/
structure Attends (Q : Cert.KernelIdeal.S8x1x8x64.Idx → EReal) (K : Cert.KernelIdeal.S64x16x8x64.Idx → EReal)
    (B : IVec Cert.KernelIdeal.S8x64 32) (L : IVec Cert.KernelIdeal.S8 32) : Prop where
  first : ∀ b, inUse L b 0
  pages : ∀ b s, inUse L b s → 0 ≤ (B (ix2 b s)).toInt ∧ (B (ix2 b s)).toInt < 128
  query : ∀ i, Q i = ((Q i).toReal : EReal)
  keys : ∀ i, K i = ((K i).toReal : EReal)

/-- The bit pattern that the finiteness test compares with is the infinity. -/
theorem ofBits_top : Ideal.ofBits .f32 0x7F800000#32 = ⊤ := by
  simp [Ideal.ofBits, Ideal.ieee]

/-- A number whose absolute value is below the infinity is real. -/
theorem real_of_abs_lt (x : Ideal .f32)
    (h : FloatOps.cmpf .olt (FloatOps.hostAbsf x) (FloatOps.ofBits (F := Ideal) .f32 0x7F800000#32) = 1#1) :
    (x : EReal) = ((x : EReal).toReal : EReal) := by
  simp only [Ideal.ofBits_def, ofBits_top, Ideal.hostAbsf_def, Ideal.absf_def, Ideal.cmpf_def] at h
  induction x using EReal.rec with
  | bot => simp [Ideal.cmp] at h
  | coe r => rfl
  | top => simp [Ideal.cmp] at h

open Cert.Pre_attends_KernelIdeal in
/-- The precondition as it is computed says its parts. -/
theorem attends_of_fn [Facts] (Q : FVec Ideal S8x1x8x64 .f32) (K V : FVec Ideal S64x16x8x64 .f32) (B : IVec S8x64 32)
    (L : IVec S8 32) (h : fn (F := Ideal) Q K V B L = fun _ => 1#1) : Attends Q K B L := by
  have : Subsingleton S_.Idx := ⟨fun _ _ => funext fun a => a.elim0⟩
  have e := congrFun h (Shape.Idx.first Facts.h_S_)
  obtain ⟨e, hk⟩ := IntOp.andi_eq_one.1 e
  obtain ⟨e, hq⟩ := IntOp.andi_eq_one.1 e
  obtain ⟨hl, hb⟩ := IntOp.andi_eq_one.1 e
  refine ⟨fun b => ?_, fun b s hs => ?_, fun i => ?_, fun i => ?_⟩
  · have := IntOp.cmpi_sge.1 (Host.reduce_andi_all _ _ _ _ _ hl (ix1 b))
    have : (1 : ℤ) ≤ (L (ix1 b)).toInt := this
    show ((0 : ℕ) : ℤ) < (L (ix1 b)).toInt
    omega
  · obtain h0 | h1 := IntOp.ori_eq_one.1 (Host.reduce_andi_all _ _ _ _ _ hb (ix2 b s))
    · have hw := inUse_word L b s
      rw [if_pos hs] at hw
      replace h0 : ~~~(IntOp.cmpi .slt (BitVec.ofNat 32 s.val) (broadcastInDim S8x64 ![0] Facts.bcast_S8_S8x64_0 L (ix2 b s)))
        = 1#1 := h0
      rw [show broadcastInDim S8x64 ![0] Facts.bcast_S8_S8x64_0 L (ix2 b s) = L (ix1 b) by pointwise, hw] at h0
      exact absurd h0 (by decide)
    · obtain ⟨h2, h3⟩ := IntOp.andi_eq_one.1 h1
      exact ⟨IntOp.cmpi_sge.1 h2, IntOp.cmpi_slt.1 h3⟩
  · exact real_of_abs_lt _ (Host.reduce_andi_all _ _ _ _ _ hq i)
  · exact real_of_abs_lt _ (Host.reduce_andi_all _ _ _ _ _ hk i)

end Cert.Attn
end
end
-- ==== Proof.Equation.lean ====
/-
The kernel's result is the reference's: what every device returns is, number for number, what the reference computes
from the whole arrays.
-/
module

public import proofs.«01_k».proof.Proof.Launch
public import proofs.«01_k».proof.Proof.Joined
public import proofs.«01_k».proof.Proof.RefValue
public import proofs.«01_k».proof.Proof.Attends

@[expose] public section

noncomputable section

namespace Cert.Attn

open Cert.KernelIdeal Cert.KernelIdeal.Gen

open Idealize.ShloMosaic

/-! ## Two devices' blocks are all the pages -/

/-- A sum over the positions of a block is a sum over its pages and their tokens. -/
theorem sum_positions (f : Fin 64 → Fin 16 → EReal) : ∑ t : Fin 1024, f (pg t) (tok t) = ∑ p, ∑ k, f p k := by
  rw [← Fintype.sum_prod_type', ← Equiv.sum_comp (finProdFinEquiv (m := 64) (n := 16))]
  refine Finset.sum_congr rfl fun x _ => ?_
  have h2 := x.2.isLt
  have hp : pg (finProdFinEquiv x) = x.1 := Fin.ext (show (x.2.val + 16 * x.1.val) / 16 = x.1.val by omega)
  have hk : tok (finProdFinEquiv x) = x.2 := Fin.ext (show (x.2.val + 16 * x.1.val) % 16 = x.2.val by omega)
  rw [hp, hk]

/-- The lower half of the pages and the upper half are all of them. -/
theorem sum_halves (f : Fin 128 → EReal) (a a' : Dev nD) (h : a.val % 2 ≠ a'.val % 2) :
    ∑ p, f (pageOf a p) + ∑ p, f (pageOf a' p) = ∑ p, f p := by
  have key : ∀ a a' : Dev nD, a.val % 2 = 0 → a'.val % 2 = 1 →
      ∑ p, f (pageOf a p) + ∑ p, f (pageOf a' p) = ∑ p, f p := by
    intro a a' h0 h1
    refine ((Fin.sum_univ_add (a := 64) (b := 64) f).trans ?_).symm
    refine congrArg₂ (· + ·) (Finset.sum_congr rfl fun p _ => congrArg f (Fin.ext ?_))
      (Finset.sum_congr rfl fun p _ => congrArg f (Fin.ext ?_))
    · show p.val = 64 * (a.val % 2) + p.val
      omega
    · show 64 + p.val = 64 * (a'.val % 2) + p.val
      omega
  rcases Nat.mod_two_eq_zero_or_one a.val with h0 | h1
  · exact key a a' h0 (by omega)
  · rw [add_comm]
    exact key a' a (by omega) h1

/-- The positions of two devices' blocks, the devices in different columns of the mesh, are all pages and tokens. -/
theorem split_positions (a a' : Dev nD) (h : a.val % 2 ≠ a'.val % 2) (f : Fin 128 → Fin 16 → EReal) :
    ∑ t : Fin 1024, f (pageOf a (pg t)) (tok t) + ∑ t : Fin 1024, f (pageOf a' (pg t)) (tok t) = ∑ p, ∑ k, f p k := by
  rw [sum_positions fun p k => f (pageOf a p) k, sum_positions fun p k => f (pageOf a' p) k]
  exact sum_halves (fun p => ∑ k, f p k) a a' h

/-! ## One head -/

section
variable (q : S8x1x8x64.Idx → ℝ) (κ : Cert.ReferenceIdeal.S128x16x8x64.Idx → ℝ)
  (V : Cert.ReferenceIdeal.S128x16x8x64.Idx → EReal) (B : IVec S8x64 32) (L : IVec S8 32)

/-- A device's block of an array of pages. -/
def blockOf {α : Type} (X : Cert.ReferenceIdeal.S128x16x8x64.Idx → α) (c : Dev nD) (i : S64x16x8x64.Idx) : α :=
  X (ix4 (pageOf c (i 0)) (i 1) (i 2) (i 3))

/-- A device's score of a position is the reference's of the page and token. -/
theorem score_eq (a : Dev nD) (g : Fin 8) (ha : a.val / 2 = g.val / 4) (b : Fin 8) (t : Fin 1024) :
    score a q (blockOf κ a) (g.val % 4) (by omega) b t = Ref.score q κ b g (pageOf a (pg t)) (tok t) := by
  have hg : headOf a (g.val % 4) (by omega) = g := Fin.ext (show 4 * (a.val / 2) + g.val % 4 = g.val by omega)
  unfold score Ref.score
  rw [Finset.sum_mul, hg]
  refine Finset.sum_congr rfl fun d _ => ?_
  show q _ * (1 / 8) * κ (ix4 (pageOf a (pg t)) (tok t) g d) = _
  ring

variable (h0 : ∀ b, inUse L b 0)
  (hB : ∀ b s, inUse L b s → 0 ≤ (B (ix2 b s)).toInt ∧ (B (ix2 b s)).toInt < 128)
include h0 hB

omit h0 hB in
/-- The larger of two reals, as an extended real. -/
theorem coe_max (x y : ℝ) : ((max x y : ℝ) : EReal) = max (x : EReal) (y : EReal) :=
  EReal.coe_strictMono.monotone.map_max

/-- Two devices' results for a head, joined, are the reference's. -/
theorem joinOf_eq (a a' : Dev nD) (b g : Fin 8) (d : Fin 64) (ha : a.val / 2 = g.val / 4) (ha' : a'.val / 2 = g.val / 4)
    (hne : a.val % 2 ≠ a'.val % 2) :
    joinOf (fun _ i => (q i : EReal)) (fun c i => ((blockOf κ c i : ℝ) : EReal)) (fun c => blockOf V c) (fun _ => B) (fun _ => L)
        a a' (g.val % 4) (by omega) b d
      = Cert.ReferenceIdeal.Read.val_main_v33 (F := Ideal) (fun i => (q i : EReal)) (fun i => (κ i : EReal)) V B L
          (ix4 b 0 g d) := by
  have hh : g.val % 4 < 4 := by omega
  obtain ⟨m, hm⟩ := maxAt_real a q (blockOf κ a) B L hB (g.val % 4) hh b
  obtain ⟨m', hm'⟩ := maxAt_real a' q (blockOf κ a') B L hB (g.val % 4) hh b
  obtain ⟨M, hM⟩ := Ref.max_real q κ B L b g (h0 b)
  rw [Ref.result_apply q κ V B L b g M hM d]
  have hg : headOf a (g.val % 4) hh = g := Fin.ext (show 4 * (a.val / 2) + g.val % 4 = g.val by omega)
  have hg' : headOf a' (g.val % 4) hh = g := Fin.ext (show 4 * (a'.val / 2) + g.val % 4 = g.val by omega)
  unfold joinOf joined
  rw [hm, hm', sumAt_apply a q (blockOf κ a) B L hB _ hh b m hm, sumAt_apply a' q (blockOf κ a') B L hB _ hh b m' hm',
    dotAt_apply a q (blockOf κ a) (blockOf V a) B L hB _ hh b m hm d,
    dotAt_apply a' q (blockOf κ a') (blockOf V a') B L hB _ hh b m' hm' d, ← coe_max, ← EReal.coe_sub,
    ← EReal.coe_sub, Ideal.exp_coe, Ideal.exp_coe, hg, hg']
  exact merge_eq (inUse L b) (pageAt B b) (fun p k => Ref.score q κ b g p k) (fun p k => V (ix4 p k g d))
    (fun t => pageOf a (pg t)) (fun t => pageOf a' (pg t)) tok (split_positions a a' hne)
    (masked a q (blockOf κ a) B L (g.val % 4) hh b) (masked a' q (blockOf κ a') B L (g.val % 4) hh b)
    (fun t ht => (if_neg ht).trans (score_eq q κ a g ha b t)) (fun t ht => (if_neg ht).trans (score_eq q κ a' g ha' b t))
    m m' (max m m') M 0 (h0 b) 0

/-- A device's result is the reference's. -/
theorem outOf_eq (c : Dev nD) :
    outOf (packs (fun _ i => (q i : EReal)) (fun c i => ((blockOf κ c i : ℝ) : EReal)) (fun c => blockOf V c) (fun _ => B) (fun _ => L))
        c (fun i => (q i : EReal)) (fun i => ((blockOf κ c i : ℝ) : EReal)) (blockOf V c) B L
      = Cert.ReferenceIdeal.Read.val_main_v33 (F := Ideal) (fun i => (q i : EReal)) (fun i => (κ i : EReal)) V B L := by
  funext i
  have h1 : (i 1).val < 1 := (i 1).isLt
  rw [eq_ix4 i, show i 1 = (0 : Fin 1) from Fin.ext (by omega : (i 1).val = 0)]
  obtain ⟨a, a', ha, ha', hne, e⟩ := outOf_apply (fun _ i => (q i : EReal)) (fun c i => ((blockOf κ c i : ℝ) : EReal))
    (fun c => blockOf V c) (fun _ => B) (fun _ => L) c (i 0) (i 2) (i 3)
  exact e.trans (joinOf_eq q κ V B L h0 hB a a' (i 0) (i 2) (i 3) ha ha' hne)

end

/-! ## The layout -/

/-- The block of pages a device holds is numbered by its coordinate along `y`. -/
theorem meshBlock_val_eq : ∀ c : Dev nD,
    ((Layout.meshBlock [2, 2] ![[1], [], [], []] c) (0 : Fin 4)).val = c.val % 2 := by
  decide

/-- The block a device holds is the one the layout names. -/
theorem block_eq {α : Type} (X : Cert.ReferenceIdeal.S128x16x8x64.Idx → α) (c : Dev nD) :
    Layout.blockN ⟨4, ![64, 16, 8, 64]⟩ ⟨4, ![128, 16, 8, 64]⟩ (Layout.meshBlock [2, 2] ![[1], [], [], []] c) X
      = blockOf X c := by
  funext i
  refine congrArg X (funext fun a => Fin.ext ?_)
  rw [Layout.TilesN.idx_val]
  fin_cases a
  · refine (congrArg (· * 64 + (i 0).val) (meshBlock_val_eq c)).trans ?_
    show c.val % 2 * 64 + (i 0).val = 64 * (c.val % 2) + (i 0).val
    omega
  · exact (congrArg (· + (i 1).val) (Nat.zero_mul _)).trans (Nat.zero_add _)
  · exact (congrArg (· + (i 2).val) (Nat.zero_mul _)).trans (Nat.zero_add _)
  · exact (congrArg (· + (i 3).val) (Nat.zero_mul _)).trans (Nat.zero_add _)

/-- Every page is in some device's block. -/
theorem exists_block (p : Fin 128) : ∃ (c : Dev nD) (r : Fin 64), pageOf c r = p := by
  by_cases h : p.val < 64
  · exact ⟨(0 : Fin 4), ⟨p.val, h⟩, Fin.ext (Nat.zero_add _)⟩
  · exact ⟨(1 : Fin 4), ⟨p.val - 64, by omega⟩, Fin.ext (show 64 + (p.val - 64) = p.val by omega)⟩

/-- The staged lengths are the argument's. -/
theorem lensOf_eq (m : (ℓ : Loc nD τ sig) → Buf (Elt Ideal) ℓ) (c : Dev nD) :
    lensOf m c = m (c.tc.loc main_arg4) := by
  funext i
  refine congrArg (m (c.tc.loc main_arg4)) (funext fun a => Fin.ext ?_)
  fin_cases a
  refine (show _ = 0 * 8 + 1 * (i (0 : Fin 1)).val from rfl).trans ?_
  rw [zero_mul, zero_add, one_mul]
  rfl

/-- When every device holds the query, the table and the lengths, and its block of the keys and of the values, and the
    precondition's parts hold of what it holds, every device's result is the reference's of the whole arrays. -/
theorem resultOf_eq (m : (ℓ : Loc nD τ sig) → Buf (Elt Ideal) ℓ) (Q : S8x1x8x64.Idx → EReal)
    (K V : Cert.ReferenceIdeal.S128x16x8x64.Idx → EReal) (B : IVec S8x64 32) (L : IVec S8 32)
    (hQ : ∀ c : Dev nD, m (c.tc.loc main_arg0) = Q) (hK : ∀ c : Dev nD, m (c.tc.loc main_arg1) = blockOf K c)
    (hV : ∀ c : Dev nD, m (c.tc.loc main_arg2) = blockOf V c) (hT : ∀ c : Dev nD, m (c.tc.loc main_arg3) = B)
    (hL : ∀ c : Dev nD, m (c.tc.loc main_arg4) = L) (hA : ∀ c : Dev nD, Attends Q (blockOf K c) B L) (c : Dev nD) :
    resultOf m c = Cert.ReferenceIdeal.Read.val_main_v33 (F := Ideal) Q K V B L := by
  obtain ⟨q, rfl⟩ : ∃ q : S8x1x8x64.Idx → ℝ, (fun i => (q i : EReal)) = Q :=
    ⟨fun i => (Q i).toReal, funext fun i => ((hA c).query i).symm⟩
  obtain ⟨κ, rfl⟩ : ∃ κ : Cert.ReferenceIdeal.S128x16x8x64.Idx → ℝ, (fun i => (κ i : EReal)) = K := by
    refine ⟨fun i => (K i).toReal, funext fun i => ?_⟩
    obtain ⟨a, r, hr⟩ := exists_block (i 0)
    have h := (hA a).keys (ix4 r (i 1) (i 2) (i 3))
    have e : blockOf K a (ix4 r (i 1) (i 2) (i 3)) = K i := by
      show K (ix4 (pageOf a r) (i 1) (i 2) (i 3)) = K i
      rw [hr, ← eq_ix4 i]
    rw [e] at h
    exact h.symm
  have hP : PKof m = packs (fun _ i => (q i : EReal)) (fun c i => ((blockOf κ c i : ℝ) : EReal)) (fun c => blockOf V c)
      (fun _ => B) (fun _ => L) := by
    funext a
    unfold PKof packs
    rw [lensOf_eq, hQ, hK, hV, hT, hL]
    rfl
  unfold resultOf
  rw [hP, lensOf_eq, hQ, hK, hV, hT, hL]
  exact outOf_eq q κ V B L (hA c).first (hA c).pages c

end Cert.Attn
end
end
-- ==== Proof.lean ====
/- The proof of the certificate's claim: every execution of the kernel and of the reference terminates with their
   arguments unchanged and every semaphore counter at zero, and at the ideal numbers the two return the same. -/
module

public import proofs.«01_k».proof.Defs
public import proofs.«01_k».proof.Proof.Equation
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_attends_KernelIdeal
public import proofs.«01_k».proof.Proof.Gen.Pre_attends_ReferenceIdeal
public import Idealize.ShloMosaic.Lib.Quiescent

@[expose] public section

noncomputable section

namespace Cert.Proof

open Idealize.ShloMosaic Idealize.SL.Sem

/-- The two printed kernels have one body, label by label. -/
theorem bodies_eq {F : FTy → Type} [FloatOps F] :
    Cert.Kernel.defs₀ (F := F) = Cert.KernelIdeal.defs₀ (F := F) := by
  refine congrArg (Defs.onTc (Λ := Cert.KernelIdeal.Λ₀)) ?_
  funext l a
  match l, a with
  | ⟨0, _⟩, (t, s) => exact congrFun rfl _
  | ⟨_ + 1, h⟩, _ => exact absurd h (by omega)

/-- The two printed kernels have one table of functions. -/
theorem defs_eq {F : FTy → Type} [FloatOps F] :
    Cert.Kernel.defs (F := F) = Cert.KernelIdeal.defs (F := F) :=
  congrArg (Pipeline.defs (Cert.KernelIdeal.pcfgs (F := F))) bodies_eq

/-- Over either reading of a float the kernel runs, leaves its arguments as they were and its semaphores at zero. -/
theorem frame_any {F : FTy → Type} [FloatOps F] (m) (ρ) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem (c.tc.loc Cert.KernelIdeal.main_arg0) = m (c.tc.loc Cert.KernelIdeal.main_arg0) ∧
        r.2.mem (c.tc.loc Cert.KernelIdeal.main_arg1) = m (c.tc.loc Cert.KernelIdeal.main_arg1) ∧
        r.2.mem (c.tc.loc Cert.KernelIdeal.main_arg2) = m (c.tc.loc Cert.KernelIdeal.main_arg2) ∧
        r.2.mem (c.tc.loc Cert.KernelIdeal.main_arg3) = m (c.tc.loc Cert.KernelIdeal.main_arg3) ∧
        r.2.mem (c.tc.loc Cert.KernelIdeal.main_arg4) = m (c.tc.loc Cert.KernelIdeal.main_arg4)) ∧
      r.2.sem = fun _ => 0) :=
  (θ_run Cert.KernelIdeal.defs _ _).mono (fun _ h => ⟨fun c => (h.1 c).2, h.2⟩) (Cert.Attn.run_main m ρ)

/-- The kernel at bit patterns. -/
theorem frame_kernel : Cert.quiescent_Kernel (hKernel := Cert.Kernel.Gen.facts) := fun m ρ _ => by
  have h := frame_any (F := Bits) m ρ
  rw [← defs_eq] at h
  exact h

/-- The kernel at the ideal numbers. -/
theorem frame_ideal : Cert.quiescent_KernelIdeal (hKernelIdeal := Cert.KernelIdeal.Gen.facts) := fun m ρ _ =>
  frame_any (F := Ideal) m ρ

/-- The reference runs and leaves its arguments as they were; it has no semaphore. -/
theorem frame_reference : Cert.quiescent_ReferenceIdeal (hReferenceIdeal := Cert.ReferenceIdeal.Gen.facts) :=
  fun m ρ _ => (θ_run Cert.ReferenceIdeal.defs _ _).mono
    (fun _ h => ⟨fun c => (h c).2, sem_eq_zero_of_no_sems rfl _⟩)
    (Cert.ReferenceIdeal.Value.run (F := Ideal) m ρ)

/-- Under the precondition `attends`, every device of the kernel returns what the reference returns of the whole
    arrays. -/
theorem same_result : Cert.algebraic_KernelIdeal_ReferenceIdeal_pre_attends_KernelIdeal
    (hKernelIdeal := Cert.KernelIdeal.Gen.facts) (hReferenceIdeal := Cert.ReferenceIdeal.Gen.facts)
    (hPre_attends_KernelIdeal := Cert.Pre_attends_KernelIdeal.Gen.facts) := by
  intro m g m' g' hpre hin
  have hA := fun c => Cert.Attn.attends_of_fn _ _ _ _ _ (hpre c)
  have key := Cert.Attn.resultOf_eq m _ _ _ _ _ (fun c => (hin c).1)
    (fun c => (hin c).2.1.trans (Cert.Attn.block_eq _ c)) (fun c => (hin c).2.2.1.trans (Cert.Attn.block_eq _ c))
    (fun c => (hin c).2.2.2.1) (fun c => (hin c).2.2.2.2) (fun c => by
      have h := hA c
      rw [(hin c).1, (hin c).2.1, (hin c).2.2.2.1, (hin c).2.2.2.2, Cert.Attn.block_eq] at h
      exact h)
  refine ⟨Cert.ReferenceIdeal.Value.res_main_v33 m' 0, ?_, ?_⟩
  · refine (θ_run Cert.KernelIdeal.defs _ _).mono (fun _ h c => ?_) (Cert.Attn.run_main m g)
    obtain ⟨hr, ha⟩ := h.1 c
    exact ⟨(hr.trans (key c)).trans (Cert.ReferenceIdeal.Read.val_main_v33_eq m' 0).symm, ha⟩
  · exact (θ_run Cert.ReferenceIdeal.defs _ _).mono (fun _ h => h 0) (Cert.ReferenceIdeal.Value.run (F := Ideal) m' g')

/-- The certificate's claim. -/
theorem claim : Cert.Claim := ⟨Cert.Kernel.Gen.facts, Cert.KernelIdeal.Gen.facts, Cert.ReferenceIdeal.Gen.facts,
  Cert.Pre_attends_KernelIdeal.Gen.facts, Cert.Pre_attends_ReferenceIdeal.Gen.facts,
  frame_kernel, frame_ideal, fun m ρ _ => frame_ideal m ρ trivial, frame_reference,
  fun m ρ _ => frame_reference m ρ trivial, trivial, same_result⟩

end Cert.Proof

end
